-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1x1024 : Shape := ⟨2, ![1, 1024]⟩
abbrev S4x256x512 : Shape := ⟨3, ![4, 256, 512]⟩
abbrev S8x64x512 : Shape := ⟨3, ![8, 64, 512]⟩
abbrev S6x64x512 : Shape := ⟨3, ![6, 64, 512]⟩
abbrev S48 : Shape := ⟨1, ![48]⟩
abbrev S_ : Shape := ⟨0, ![]⟩
abbrev S1 : Shape := ⟨1, ![1]⟩
abbrev S1x256x512 : Shape := ⟨3, ![1, 256, 512]⟩
abbrev S256x512 : Shape := ⟨2, ![256, 512]⟩
abbrev S1x64x512 : Shape := ⟨3, ![1, 64, 512]⟩
abbrev S64x512 : Shape := ⟨2, ![64, 512]⟩
abbrev S64x1024 : Shape := ⟨2, ![64, 1024]⟩
abbrev S64 : Shape := ⟨1, ![64]⟩
abbrev S64x1 : Shape := ⟨2, ![64, 1]⟩

abbrev nBuf : Space → Nat
  | .hbm => 4
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x1024, .f32⟩
  | .hbm, ⟨3, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S4x256x512, .f32⟩
  | .local _ .vmem, ⟨5, _⟩ => ⟨S8x64x512, .f32⟩
  | .local _ .vmem, ⟨6, _⟩ => ⟨S6x64x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_15 : BitVec 32 := 1#32
  let v26 : BitVec 32 := Scalar.muli v8 c1_i32_15
  let v27 : BitVec 32 := Scalar.addi c0_i32 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_4 : BitVec 32 := 4#32
  let v9 : BitVec 32 := Scalar.muli v3 c4_i32_4
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_17 : BitVec 32 := 1#32
  let v28 : BitVec 32 := Scalar.muli v12 c1_i32_17
  let v29 : BitVec 32 := Scalar.addi c0_i32_18 v28
  v29.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_6 : BitVec 32 := 1#32
  let v13 : BitVec 32 := Scalar.addi v3 c1_i32_6
  let c4_i32_7 : BitVec 32 := 4#32
  let v14 : BitVec 32 := Scalar.remsi v13 c4_i32_7
  let c4_i32_8 : BitVec 32 := 4#32
  let v15 : BitVec 32 := Scalar.muli v14 c4_i32_8
  let c4_i32_0 : BitVec 32 := 4#32
  let v4 : BitVec 32 := Scalar.remsi v2 c4_i32_0
  let v16 : BitVec 32 := Scalar.addi v15 v4
  let c1_i32_20 : BitVec 32 := 1#32
  let v30 : BitVec 32 := Scalar.muli v16 c1_i32_20
  let v31 : BitVec 32 := Scalar.addi c0_i32_21 v30
  v31.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_9 : BitVec 32 := 3#32
  let v17 : BitVec 32 := Scalar.addi v3 c3_i32_9
  let c4_i32_10 : BitVec 32 := 4#32
  let v18 : BitVec 32 := Scalar.remsi v17 c4_i32_10
  let c4_i32_11 : BitVec 32 := 4#32
  let v19 : BitVec 32 := Scalar.muli v18 c4_i32_11
  let c4_i32_0 : BitVec 32 := 4#32
  let v4 : BitVec 32 := Scalar.remsi v2 c4_i32_0
  let v20 : BitVec 32 := Scalar.addi v19 v4
  let c1_i32_23 : BitVec 32 := 1#32
  let v32 : BitVec 32 := Scalar.muli v20 c1_i32_23
  let v33 : BitVec 32 := Scalar.addi c0_i32_24 v32
  v33.toNat
def k0_dev5 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_12 : BitVec 32 := 4#32
  let v21 : BitVec 32 := Scalar.muli v3 c4_i32_12
  let c4_i32_0 : BitVec 32 := 4#32
  let v4 : BitVec 32 := Scalar.remsi v2 c4_i32_0
  let c2_i32 : BitVec 32 := 2#32
  let v22 : BitVec 32 := Scalar.addi v4 c2_i32
  let c4_i32_13 : BitVec 32 := 4#32
  let v23 : BitVec 32 := Scalar.remsi v22 c4_i32_13
  let v24 : BitVec 32 := Scalar.addi v21 v23
  let c1_i32_26 : BitVec 32 := 1#32
  let v34 : BitVec 32 := Scalar.muli v24 c1_i32_26
  let v35 : BitVec 32 := Scalar.addi c0_i32_27 v34
  v35.toNat
def k0_off1 (d0 : Dev nD) (c0_i32_30 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let v39 : BitVec 32 := Scalar.subi v4 c0_i32_30
  let c4_i32_31 : BitVec 32 := 4#32
  let v40 : BitVec 32 := Scalar.addi v39 c4_i32_31
  let c4_i32_32 : BitVec 32 := 4#32
  let v41 : BitVec 32 := Scalar.remsi v40 c4_i32_32
  let c256_i32_33 : BitVec 32 := 256#32
  let v42 : BitVec 32 := Scalar.muli v41 c256_i32_33
  let c0_i32_41 : BitVec 32 := 0#32
  ![v42.toNat, 0]
def k0_dev6 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_37 : BitVec 32 := 1#32
  let v43 : BitVec 32 := Scalar.muli v8 c1_i32_37
  let v44 : BitVec 32 := Scalar.addi c0_i32_38 v43
  v44.toNat
def k0_off2 (d0 : Dev nD) (c0_i32_42 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let v52 : BitVec 32 := Scalar.addi v4 c0_i32_42
  let c2_i32_43 : BitVec 32 := 2#32
  let v53 : BitVec 32 := Scalar.addi v52 c2_i32_43
  let c4_i32_44 : BitVec 32 := 4#32
  let v54 : BitVec 32 := Scalar.remsi v53 c4_i32_44
  let c256_i32_45 : BitVec 32 := 256#32
  let v55 : BitVec 32 := Scalar.muli v54 c256_i32_45
  let c512_i32 : BitVec 32 := 512#32
  ![v55.toNat, 512]
def k0_dev7 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_4 : BitVec 32 := 4#32
  let v9 : BitVec 32 := Scalar.muli v3 c4_i32_4
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_49 : BitVec 32 := 1#32
  let v56 : BitVec 32 := Scalar.muli v12 c1_i32_49
  let v57 : BitVec 32 := Scalar.addi c0_i32_50 v56
  v57.toNat
def k0_off3 (d0 : Dev nD) (c0_i32_61 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let v72 : BitVec 32 := Scalar.subi v4 c0_i32_61
  let c4_i32_62 : BitVec 32 := 4#32
  let v73 : BitVec 32 := Scalar.addi v72 c4_i32_62
  let c1_i32_63 : BitVec 32 := 1#32
  let v74 : BitVec 32 := Scalar.subi v73 c1_i32_63
  let c4_i32_64 : BitVec 32 := 4#32
  let v75 : BitVec 32 := Scalar.remsi v74 c4_i32_64
  let c256_i32_65 : BitVec 32 := 256#32
  let v76 : BitVec 32 := Scalar.muli v75 c256_i32_65
  let v77 : Index := Scalar.indexCast v76
  let c0 : Index := 0#32
  ![v77.toNat, 0]
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_78 : BitVec 32 := 1#32
  let v90 : BitVec 32 := Scalar.muli v8 c1_i32_78
  let v91 : BitVec 32 := Scalar.addi c0_i32_79 v90
  v91.toNat
def k0_off4 (d0 : Dev nD) (c0_i32_91 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let v106 : BitVec 32 := Scalar.addi v4 c0_i32_91
  let c3_i32_92 : BitVec 32 := 3#32
  let v107 : BitVec 32 := Scalar.addi v106 c3_i32_92
  let c4_i32_93 : BitVec 32 := 4#32
  let v108 : BitVec 32 := Scalar.remsi v107 c4_i32_93
  let c256_i32_94 : BitVec 32 := 256#32
  let v109 : BitVec 32 := Scalar.muli v108 c256_i32_94
  let v110 : Index := Scalar.indexCast v109
  let c512 : Index := 512#32
  ![v110.toNat, 512]
def k0_dev9 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_4 : BitVec 32 := 4#32
  let v9 : BitVec 32 := Scalar.muli v3 c4_i32_4
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_106 : BitVec 32 := 1#32
  let v123 : BitVec 32 := Scalar.muli v12 c1_i32_106
  let v124 : BitVec 32 := Scalar.addi c0_i32_107 v123
  v124.toNat
def k0_off5 (d0 : Dev nD) (c0_i32_129 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32_132 : BitVec 32 := 2#32
  let v156 : BitVec 32 := Scalar.subi v4 c2_i32_132
  let c4_i32_133 : BitVec 32 := 4#32
  let v157 : BitVec 32 := Scalar.addi v156 c4_i32_133
  let c4_i32_134 : BitVec 32 := 4#32
  let v158 : BitVec 32 := Scalar.remsi v157 c4_i32_134
  let c256_i32_135 : BitVec 32 := 256#32
  let v159 : BitVec 32 := Scalar.muli v158 c256_i32_135
  let c4_i32 : BitVec 32 := 4#32
  let v3 : BitVec 32 := Scalar.divsi v2 c4_i32
  let v153 : BitVec 32 := Scalar.subi v3 c0_i32_129
  let c4_i32_130 : BitVec 32 := 4#32
  let v154 : BitVec 32 := Scalar.addi v153 c4_i32_130
  let c4_i32_131 : BitVec 32 := 4#32
  let v155 : BitVec 32 := Scalar.remsi v154 c4_i32_131
  let c64_i32 : BitVec 32 := 64#32
  let v160 : BitVec 32 := Scalar.muli v155 c64_i32
  let v161 : BitVec 32 := Scalar.addi v159 v160
  let c0_i32_143 : BitVec 32 := 0#32
  ![v161.toNat, 0]
def k0_dev10 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_139 : BitVec 32 := 1#32
  let v162 : BitVec 32 := Scalar.muli v8 c1_i32_139
  let v163 : BitVec 32 := Scalar.addi c0_i32_140 v162
  v163.toNat
def k0_off6 (d0 : Dev nD) (c0_i32_162 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c256_i32_164 : BitVec 32 := 256#32
  let v194 : BitVec 32 := Scalar.muli v4 c256_i32_164
  let c4_i32 : BitVec 32 := 4#32
  let v3 : BitVec 32 := Scalar.divsi v2 c4_i32
  let c2_i32_161 : BitVec 32 := 2#32
  let v191 : BitVec 32 := Scalar.addi v3 c2_i32_161
  let v192 : BitVec 32 := Scalar.addi v191 c0_i32_162
  let c4_i32_163 : BitVec 32 := 4#32
  let v193 : BitVec 32 := Scalar.remsi v192 c4_i32_163
  let c64_i32_165 : BitVec 32 := 64#32
  let v195 : BitVec 32 := Scalar.muli v193 c64_i32_165
  let v196 : BitVec 32 := Scalar.addi v194 v195
  let c512_i32_172 : BitVec 32 := 512#32
  ![v196.toNat, 512]
def k0_dev11 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_4 : BitVec 32 := 4#32
  let v9 : BitVec 32 := Scalar.muli v3 c4_i32_4
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_168 : BitVec 32 := 1#32
  let v197 : BitVec 32 := Scalar.muli v12 c1_i32_168
  let v198 : BitVec 32 := Scalar.addi c0_i32_169 v197
  v198.toNat
def k0_off7 (d0 : Dev nD) (c0_i32_181 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_28 : BitVec 32 := 1#32
  let v36 : BitVec 32 := Scalar.addi v4 c1_i32_28
  let c4_i32_29 : BitVec 32 := 4#32
  let v37 : BitVec 32 := Scalar.remsi v36 c4_i32_29
  let c256_i32 : BitVec 32 := 256#32
  let v38 : BitVec 32 := Scalar.muli v37 c256_i32
  let c4_i32 : BitVec 32 := 4#32
  let v3 : BitVec 32 := Scalar.divsi v2 c4_i32
  let v213 : BitVec 32 := Scalar.subi v3 c0_i32_181
  let c4_i32_182 : BitVec 32 := 4#32
  let v214 : BitVec 32 := Scalar.addi v213 c4_i32_182
  let c4_i32_183 : BitVec 32 := 4#32
  let v215 : BitVec 32 := Scalar.remsi v214 c4_i32_183
  let c64_i32_184 : BitVec 32 := 64#32
  let v216 : BitVec 32 := Scalar.muli v215 c64_i32_184
  let v217 : BitVec 32 := Scalar.addi v38 v216
  let v218 : Index := Scalar.indexCast v217
  let c0_185 : Index := 0#32
  ![v218.toNat, 0]
def k0_off8 (d0 : Dev nD) (c0_i32_190 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_28 : BitVec 32 := 1#32
  let v36 : BitVec 32 := Scalar.addi v4 c1_i32_28
  let c4_i32_29 : BitVec 32 := 4#32
  let v37 : BitVec 32 := Scalar.remsi v36 c4_i32_29
  let c256_i32 : BitVec 32 := 256#32
  let v38 : BitVec 32 := Scalar.muli v37 c256_i32
  let c4_i32 : BitVec 32 := 4#32
  let v3 : BitVec 32 := Scalar.divsi v2 c4_i32
  let v226 : BitVec 32 := Scalar.subi v3 c0_i32_190
  let c4_i32_191 : BitVec 32 := 4#32
  let v227 : BitVec 32 := Scalar.addi v226 c4_i32_191
  let c4_i32_192 : BitVec 32 := 4#32
  let v228 : BitVec 32 := Scalar.remsi v227 c4_i32_192
  let c64_i32_193 : BitVec 32 := 64#32
  let v229 : BitVec 32 := Scalar.muli v228 c64_i32_193
  let v230 : BitVec 32 := Scalar.addi v38 v229
  let c0_i32_200 : BitVec 32 := 0#32
  ![v230.toNat, 0]
def k0_dev12 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_6 : BitVec 32 := 1#32
  let v13 : BitVec 32 := Scalar.addi v3 c1_i32_6
  let c4_i32_7 : BitVec 32 := 4#32
  let v14 : BitVec 32 := Scalar.remsi v13 c4_i32_7
  let c4_i32_8 : BitVec 32 := 4#32
  let v15 : BitVec 32 := Scalar.muli v14 c4_i32_8
  let c4_i32_0 : BitVec 32 := 4#32
  let v4 : BitVec 32 := Scalar.remsi v2 c4_i32_0
  let v16 : BitVec 32 := Scalar.addi v15 v4
  let c1_i32_196 : BitVec 32 := 1#32
  let v231 : BitVec 32 := Scalar.muli v16 c1_i32_196
  let v232 : BitVec 32 := Scalar.addi c0_i32_197 v231
  v232.toNat
def k0_dev13 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_212 : BitVec 32 := 1#32
  let v249 : BitVec 32 := Scalar.muli v8 c1_i32_212
  let v250 : BitVec 32 := Scalar.addi c0_i32_213 v249
  v250.toNat
def k0_off9 (d0 : Dev nD) (c2_i32_225 : BitVec 32) (c0_i32_226 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_28 : BitVec 32 := 1#32
  let v36 : BitVec 32 := Scalar.addi v4 c1_i32_28
  let c4_i32_29 : BitVec 32 := 4#32
  let v37 : BitVec 32 := Scalar.remsi v36 c4_i32_29
  let c256_i32 : BitVec 32 := 256#32
  let v38 : BitVec 32 := Scalar.muli v37 c256_i32
  let c4_i32 : BitVec 32 := 4#32
  let v3 : BitVec 32 := Scalar.divsi v2 c4_i32
  let v265 : BitVec 32 := Scalar.addi v3 c2_i32_225
  let v266 : BitVec 32 := Scalar.addi v265 c0_i32_226
  let c4_i32_227 : BitVec 32 := 4#32
  let v267 : BitVec 32 := Scalar.remsi v266 c4_i32_227
  let c64_i32_228 : BitVec 32 := 64#32
  let v268 : BitVec 32 := Scalar.muli v267 c64_i32_228
  let v269 : BitVec 32 := Scalar.addi v38 v268
  let v270 : Index := Scalar.indexCast v269
  let c512_229 : Index := 512#32
  ![v270.toNat, 512]
def k0_off9_at (r : Fin 6) : BitVec 32 × BitVec 32 :=
  if r.val < 3 then
    if r.val < 1 then
      (2#32, 0#32)
    else
      if r.val < 2 then
        (2#32, 1#32)
      else
        (0#32, 3#32)
  else
    if r.val < 4 then
      (2#32, 2#32)
    else
      if r.val < 5 then
        (1#32, 3#32)
      else
        (2#32, 3#32)
def k0_off10 (d0 : Dev nD) (c0_i32_233 : BitVec 32) (c2_i32_234 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_28 : BitVec 32 := 1#32
  let v36 : BitVec 32 := Scalar.addi v4 c1_i32_28
  let c4_i32_29 : BitVec 32 := 4#32
  let v37 : BitVec 32 := Scalar.remsi v36 c4_i32_29
  let c256_i32 : BitVec 32 := 256#32
  let v38 : BitVec 32 := Scalar.muli v37 c256_i32
  let c4_i32 : BitVec 32 := 4#32
  let v3 : BitVec 32 := Scalar.divsi v2 c4_i32
  let v278 : BitVec 32 := Scalar.addi v3 c0_i32_233
  let v279 : BitVec 32 := Scalar.addi v278 c2_i32_234
  let c4_i32_235 : BitVec 32 := 4#32
  let v280 : BitVec 32 := Scalar.remsi v279 c4_i32_235
  let c64_i32_236 : BitVec 32 := 64#32
  let v281 : BitVec 32 := Scalar.muli v280 c64_i32_236
  let v282 : BitVec 32 := Scalar.addi v38 v281
  let c512_i32_243 : BitVec 32 := 512#32
  ![v282.toNat, 512]
def k0_off10_at (r : Fin 6) : BitVec 32 × BitVec 32 :=
  if r.val < 3 then
    if r.val < 1 then
      (0#32, 2#32)
    else
      if r.val < 2 then
        (1#32, 2#32)
      else
        (2#32, 2#32)
  else
    if r.val < 4 then
      (1#32, 0#32)
    else
      if r.val < 5 then
        (1#32, 1#32)
      else
        (1#32, 3#32)
def k0_dev14 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_9 : BitVec 32 := 3#32
  let v17 : BitVec 32 := Scalar.addi v3 c3_i32_9
  let c4_i32_10 : BitVec 32 := 4#32
  let v18 : BitVec 32 := Scalar.remsi v17 c4_i32_10
  let c4_i32_11 : BitVec 32 := 4#32
  let v19 : BitVec 32 := Scalar.muli v18 c4_i32_11
  let c4_i32_0 : BitVec 32 := 4#32
  let v4 : BitVec 32 := Scalar.remsi v2 c4_i32_0
  let v20 : BitVec 32 := Scalar.addi v19 v4
  let c1_i32_239 : BitVec 32 := 1#32
  let v283 : BitVec 32 := Scalar.muli v20 c1_i32_239
  let v284 : BitVec 32 := Scalar.addi c0_i32_240 v283
  v284.toNat
def k0_dev15 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_4 : BitVec 32 := 4#32
  let v9 : BitVec 32 := Scalar.muli v3 c4_i32_4
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_251 : BitVec 32 := 1#32
  let v298 : BitVec 32 := Scalar.muli v12 c1_i32_251
  let v299 : BitVec 32 := Scalar.addi c0_i32_252 v298
  v299.toNat
def k0_dev16 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_283 : BitVec 32 := 1#32
  let v336 : BitVec 32 := Scalar.muli v8 c1_i32_283
  let v337 : BitVec 32 := Scalar.addi c0_i32_284 v336
  v337.toNat
def k0_dev17 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_4 : BitVec 32 := 4#32
  let v9 : BitVec 32 := Scalar.muli v3 c4_i32_4
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_311 : BitVec 32 := 1#32
  let v371 : BitVec 32 := Scalar.muli v12 c1_i32_311
  let v372 : BitVec 32 := Scalar.addi c0_i32_312 v371
  v372.toNat
def k0_off11 (d0 : Dev nD) (c0_i32_324 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_28 : BitVec 32 := 1#32
  let v36 : BitVec 32 := Scalar.addi v4 c1_i32_28
  let c4_i32_29 : BitVec 32 := 4#32
  let v37 : BitVec 32 := Scalar.remsi v36 c4_i32_29
  let c256_i32 : BitVec 32 := 256#32
  let v38 : BitVec 32 := Scalar.muli v37 c256_i32
  let c4_i32 : BitVec 32 := 4#32
  let v3 : BitVec 32 := Scalar.divsi v2 c4_i32
  let v387 : BitVec 32 := Scalar.subi v3 c0_i32_324
  let c4_i32_325 : BitVec 32 := 4#32
  let v388 : BitVec 32 := Scalar.addi v387 c4_i32_325
  let c1_i32_326 : BitVec 32 := 1#32
  let v389 : BitVec 32 := Scalar.subi v388 c1_i32_326
  let c4_i32_327 : BitVec 32 := 4#32
  let v390 : BitVec 32 := Scalar.remsi v389 c4_i32_327
  let c64_i32_328 : BitVec 32 := 64#32
  let v391 : BitVec 32 := Scalar.muli v390 c64_i32_328
  let v392 : BitVec 32 := Scalar.addi v38 v391
  let v393 : Index := Scalar.indexCast v392
  let c0_329 : Index := 0#32
  ![v393.toNat, 0]
def k0_dev18 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_6 : BitVec 32 := 1#32
  let v13 : BitVec 32 := Scalar.addi v3 c1_i32_6
  let c4_i32_7 : BitVec 32 := 4#32
  let v14 : BitVec 32 := Scalar.remsi v13 c4_i32_7
  let c4_i32_8 : BitVec 32 := 4#32
  let v15 : BitVec 32 := Scalar.muli v14 c4_i32_8
  let c4_i32_0 : BitVec 32 := 4#32
  let v4 : BitVec 32 := Scalar.remsi v2 c4_i32_0
  let v16 : BitVec 32 := Scalar.addi v15 v4
  let c1_i32_340 : BitVec 32 := 1#32
  let v406 : BitVec 32 := Scalar.muli v16 c1_i32_340
  let v407 : BitVec 32 := Scalar.addi c0_i32_341 v406
  v407.toNat
def k0_dev19 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_9 : BitVec 32 := 3#32
  let v17 : BitVec 32 := Scalar.addi v3 c3_i32_9
  let c4_i32_10 : BitVec 32 := 4#32
  let v18 : BitVec 32 := Scalar.remsi v17 c4_i32_10
  let c4_i32_11 : BitVec 32 := 4#32
  let v19 : BitVec 32 := Scalar.muli v18 c4_i32_11
  let c4_i32_0 : BitVec 32 := 4#32
  let v4 : BitVec 32 := Scalar.remsi v2 c4_i32_0
  let v20 : BitVec 32 := Scalar.addi v19 v4
  let c1_i32_369 : BitVec 32 := 1#32
  let v440 : BitVec 32 := Scalar.muli v20 c1_i32_369
  let v441 : BitVec 32 := Scalar.addi c0_i32_370 v440
  v441.toNat
def k0_dev20 (d0 : Dev nD) : Nat :=
  let c0_i32_402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_401 : BitVec 32 := 1#32
  let v478 : BitVec 32 := Scalar.muli v8 c1_i32_401
  let v479 : BitVec 32 := Scalar.addi c0_i32_402 v478
  v479.toNat
def k0_dev21 (d0 : Dev nD) : Nat :=
  let c0_i32_430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_4 : BitVec 32 := 4#32
  let v9 : BitVec 32 := Scalar.muli v3 c4_i32_4
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_429 : BitVec 32 := 1#32
  let v513 : BitVec 32 := Scalar.muli v12 c1_i32_429
  let v514 : BitVec 32 := Scalar.addi c0_i32_430 v513
  v514.toNat
def k0_dev22 (d0 : Dev nD) : Nat :=
  let c0_i32_459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_6 : BitVec 32 := 1#32
  let v13 : BitVec 32 := Scalar.addi v3 c1_i32_6
  let c4_i32_7 : BitVec 32 := 4#32
  let v14 : BitVec 32 := Scalar.remsi v13 c4_i32_7
  let c4_i32_8 : BitVec 32 := 4#32
  let v15 : BitVec 32 := Scalar.muli v14 c4_i32_8
  let c4_i32_0 : BitVec 32 := 4#32
  let v4 : BitVec 32 := Scalar.remsi v2 c4_i32_0
  let v16 : BitVec 32 := Scalar.addi v15 v4
  let c1_i32_458 : BitVec 32 := 1#32
  let v548 : BitVec 32 := Scalar.muli v16 c1_i32_458
  let v549 : BitVec 32 := Scalar.addi c0_i32_459 v548
  v549.toNat
def k0_dev23 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_9 : BitVec 32 := 3#32
  let v17 : BitVec 32 := Scalar.addi v3 c3_i32_9
  let c4_i32_10 : BitVec 32 := 4#32
  let v18 : BitVec 32 := Scalar.remsi v17 c4_i32_10
  let c4_i32_11 : BitVec 32 := 4#32
  let v19 : BitVec 32 := Scalar.muli v18 c4_i32_11
  let c4_i32_0 : BitVec 32 := 4#32
  let v4 : BitVec 32 := Scalar.remsi v2 c4_i32_0
  let v20 : BitVec 32 := Scalar.addi v19 v4
  let c1_i32_486 : BitVec 32 := 1#32
  let v582 : BitVec 32 := Scalar.muli v20 c1_i32_486
  let v583 : BitVec 32 := Scalar.addi c0_i32_487 v582
  v583.toNat
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_28 : BitVec 32 := 1#32
  let v36 : BitVec 32 := Scalar.addi v4 c1_i32_28
  let c4_i32_29 : BitVec 32 := 4#32
  let v37 : BitVec 32 := Scalar.remsi v36 c4_i32_29
  let c256_i32 : BitVec 32 := 256#32
  let v38 : BitVec 32 := Scalar.muli v37 c256_i32
  let c4_i32 : BitVec 32 := 4#32
  let v3 : BitVec 32 := Scalar.divsi v2 c4_i32
  let c1_i32_559 : BitVec 32 := 1#32
  let v672 : BitVec 32 := Scalar.addi v3 c1_i32_559
  let c4_i32_560 : BitVec 32 := 4#32
  let v673 : BitVec 32 := Scalar.remsi v672 c4_i32_560
  let c64_i32_561 : BitVec 32 := 64#32
  let v674 : BitVec 32 := Scalar.muli v673 c64_i32_561
  let v675 : BitVec 32 := Scalar.addi v38 v674
  let v676 : Index := Scalar.indexCast v675
  let c0_562 : Index := 0#32
  ![v676.toNat, 0]
def k0_off13 (d0 : Dev nD) (c0_i32_570 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_28 : BitVec 32 := 1#32
  let v36 : BitVec 32 := Scalar.addi v4 c1_i32_28
  let c4_i32_29 : BitVec 32 := 4#32
  let v37 : BitVec 32 := Scalar.remsi v36 c4_i32_29
  let c256_i32 : BitVec 32 := 256#32
  let v38 : BitVec 32 := Scalar.muli v37 c256_i32
  let c4_i32 : BitVec 32 := 4#32
  let v3 : BitVec 32 := Scalar.divsi v2 c4_i32
  let c1_i32_569 : BitVec 32 := 1#32
  let v699 : BitVec 32 := Scalar.addi v3 c1_i32_569
  let v700 : BitVec 32 := Scalar.subi v699 c0_i32_570
  let c4_i32_571 : BitVec 32 := 4#32
  let v701 : BitVec 32 := Scalar.addi v700 c4_i32_571
  let c4_i32_572 : BitVec 32 := 4#32
  let v702 : BitVec 32 := Scalar.remsi v701 c4_i32_572
  let c64_i32_573 : BitVec 32 := 64#32
  let v703 : BitVec 32 := Scalar.muli v702 c64_i32_573
  let v704 : BitVec 32 := Scalar.addi v38 v703
  let c0_i32_577 : BitVec 32 := 0#32
  ![v704.toNat, 0]
def k0_dev24 (d0 : Dev nD) : Nat :=
  let c0_i32_576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_6 : BitVec 32 := 1#32
  let v13 : BitVec 32 := Scalar.addi v3 c1_i32_6
  let c4_i32_7 : BitVec 32 := 4#32
  let v14 : BitVec 32 := Scalar.remsi v13 c4_i32_7
  let c4_i32_8 : BitVec 32 := 4#32
  let v15 : BitVec 32 := Scalar.muli v14 c4_i32_8
  let c4_i32_0 : BitVec 32 := 4#32
  let v4 : BitVec 32 := Scalar.remsi v2 c4_i32_0
  let v16 : BitVec 32 := Scalar.addi v15 v4
  let c1_i32_575 : BitVec 32 := 1#32
  let v705 : BitVec 32 := Scalar.muli v16 c1_i32_575
  let v706 : BitVec 32 := Scalar.addi c0_i32_576 v705
  v706.toNat
def k0_off14 (d0 : Dev nD) (c0_i32_582 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_581 : BitVec 32 := 1#32
  let v715 : BitVec 32 := Scalar.addi v4 c1_i32_581
  let v716 : BitVec 32 := Scalar.subi v715 c0_i32_582
  let c4_i32_583 : BitVec 32 := 4#32
  let v717 : BitVec 32 := Scalar.addi v716 c4_i32_583
  let c4_i32_584 : BitVec 32 := 4#32
  let v718 : BitVec 32 := Scalar.remsi v717 c4_i32_584
  let c256_i32_585 : BitVec 32 := 256#32
  let v719 : BitVec 32 := Scalar.muli v718 c256_i32_585
  let c4_i32 : BitVec 32 := 4#32
  let v3 : BitVec 32 := Scalar.divsi v2 c4_i32
  let c1_i32_579 : BitVec 32 := 1#32
  let v713 : BitVec 32 := Scalar.addi v3 c1_i32_579
  let c4_i32_580 : BitVec 32 := 4#32
  let v714 : BitVec 32 := Scalar.remsi v713 c4_i32_580
  let c64_i32_586 : BitVec 32 := 64#32
  let v720 : BitVec 32 := Scalar.muli v714 c64_i32_586
  let v721 : BitVec 32 := Scalar.addi v719 v720
  let c0_i32_590 : BitVec 32 := 0#32
  ![v721.toNat, 0]
def k0_dev25 (d0 : Dev nD) : Nat :=
  let c0_i32_589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_588 : BitVec 32 := 1#32
  let v722 : BitVec 32 := Scalar.muli v8 c1_i32_588
  let v723 : BitVec 32 := Scalar.addi c0_i32_589 v722
  v723.toNat
def k0_dev26 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_9 : BitVec 32 := 3#32
  let v17 : BitVec 32 := Scalar.addi v3 c3_i32_9
  let c4_i32_10 : BitVec 32 := 4#32
  let v18 : BitVec 32 := Scalar.remsi v17 c4_i32_10
  let c4_i32_11 : BitVec 32 := 4#32
  let v19 : BitVec 32 := Scalar.muli v18 c4_i32_11
  let c4_i32_0 : BitVec 32 := 4#32
  let v4 : BitVec 32 := Scalar.remsi v2 c4_i32_0
  let v20 : BitVec 32 := Scalar.addi v19 v4
  let c1_i32_597 : BitVec 32 := 1#32
  let v735 : BitVec 32 := Scalar.muli v20 c1_i32_597
  let v736 : BitVec 32 := Scalar.addi c0_i32_598 v735
  v736.toNat
def k0_off15 (d0 : Dev nD) (c0_i32_604 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_603 : BitVec 32 := 1#32
  let v745 : BitVec 32 := Scalar.addi v4 c1_i32_603
  let v746 : BitVec 32 := Scalar.addi v745 c0_i32_604
  let c4_i32_605 : BitVec 32 := 4#32
  let v747 : BitVec 32 := Scalar.remsi v746 c4_i32_605
  let c256_i32_606 : BitVec 32 := 256#32
  let v748 : BitVec 32 := Scalar.muli v747 c256_i32_606
  let c4_i32 : BitVec 32 := 4#32
  let v3 : BitVec 32 := Scalar.divsi v2 c4_i32
  let c1_i32_601 : BitVec 32 := 1#32
  let v743 : BitVec 32 := Scalar.addi v3 c1_i32_601
  let c4_i32_602 : BitVec 32 := 4#32
  let v744 : BitVec 32 := Scalar.remsi v743 c4_i32_602
  let c64_i32_607 : BitVec 32 := 64#32
  let v749 : BitVec 32 := Scalar.muli v744 c64_i32_607
  let v750 : BitVec 32 := Scalar.addi v748 v749
  let c512_i32_611 : BitVec 32 := 512#32
  ![v750.toNat, 512]
def k0_dev27 (d0 : Dev nD) : Nat :=
  let c0_i32_610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_4 : BitVec 32 := 4#32
  let v9 : BitVec 32 := Scalar.muli v3 c4_i32_4
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_609 : BitVec 32 := 1#32
  let v751 : BitVec 32 := Scalar.muli v12 c1_i32_609
  let v752 : BitVec 32 := Scalar.addi c0_i32_610 v751
  v752.toNat
def k0_dev28 (d0 : Dev nD) : Nat :=
  let c0_i32_629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_628 : BitVec 32 := 1#32
  let v774 : BitVec 32 := Scalar.muli v8 c1_i32_628
  let v775 : BitVec 32 := Scalar.addi c0_i32_629 v774
  v775.toNat
def k0_dev29 (d0 : Dev nD) : Nat :=
  let c0_i32_647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_4 : BitVec 32 := 4#32
  let v9 : BitVec 32 := Scalar.muli v3 c4_i32_4
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_646 : BitVec 32 := 1#32
  let v796 : BitVec 32 := Scalar.muli v12 c1_i32_646
  let v797 : BitVec 32 := Scalar.addi c0_i32_647 v796
  v797.toNat
def k0_dev30 (d0 : Dev nD) : Nat :=
  let c0_i32_663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_6 : BitVec 32 := 1#32
  let v13 : BitVec 32 := Scalar.addi v3 c1_i32_6
  let c4_i32_7 : BitVec 32 := 4#32
  let v14 : BitVec 32 := Scalar.remsi v13 c4_i32_7
  let c4_i32_8 : BitVec 32 := 4#32
  let v15 : BitVec 32 := Scalar.muli v14 c4_i32_8
  let c4_i32_0 : BitVec 32 := 4#32
  let v4 : BitVec 32 := Scalar.remsi v2 c4_i32_0
  let v16 : BitVec 32 := Scalar.addi v15 v4
  let c1_i32_662 : BitVec 32 := 1#32
  let v816 : BitVec 32 := Scalar.muli v16 c1_i32_662
  let v817 : BitVec 32 := Scalar.addi c0_i32_663 v816
  v817.toNat
def k0_off16 (d0 : Dev nD) (c0_i32_671 : BitVec 32) (c1_i32_667 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_670 : BitVec 32 := 1#32
  let v828 : BitVec 32 := Scalar.addi v4 c1_i32_670
  let v829 : BitVec 32 := Scalar.subi v828 c0_i32_671
  let c4_i32_672 : BitVec 32 := 4#32
  let v830 : BitVec 32 := Scalar.addi v829 c4_i32_672
  let c4_i32_673 : BitVec 32 := 4#32
  let v831 : BitVec 32 := Scalar.remsi v830 c4_i32_673
  let c256_i32_674 : BitVec 32 := 256#32
  let v832 : BitVec 32 := Scalar.muli v831 c256_i32_674
  let c4_i32 : BitVec 32 := 4#32
  let v3 : BitVec 32 := Scalar.divsi v2 c4_i32
  let c1_i32_666 : BitVec 32 := 1#32
  let v824 : BitVec 32 := Scalar.addi v3 c1_i32_666
  let v825 : BitVec 32 := Scalar.subi v824 c1_i32_667
  let c4_i32_668 : BitVec 32 := 4#32
  let v826 : BitVec 32 := Scalar.addi v825 c4_i32_668
  let c4_i32_669 : BitVec 32 := 4#32
  let v827 : BitVec 32 := Scalar.remsi v826 c4_i32_669
  let c64_i32_675 : BitVec 32 := 64#32
  let v833 : BitVec 32 := Scalar.muli v827 c64_i32_675
  let v834 : BitVec 32 := Scalar.addi v832 v833
  let c0_i32_679 : BitVec 32 := 0#32
  ![v834.toNat, 0]
def k0_dev31 (d0 : Dev nD) : Nat :=
  let c0_i32_678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_677 : BitVec 32 := 1#32
  let v835 : BitVec 32 := Scalar.muli v8 c1_i32_677
  let v836 : BitVec 32 := Scalar.addi c0_i32_678 v835
  v836.toNat
def k0_dev32 (d0 : Dev nD) : Nat :=
  let c0_i32_693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_9 : BitVec 32 := 3#32
  let v17 : BitVec 32 := Scalar.addi v3 c3_i32_9
  let c4_i32_10 : BitVec 32 := 4#32
  let v18 : BitVec 32 := Scalar.remsi v17 c4_i32_10
  let c4_i32_11 : BitVec 32 := 4#32
  let v19 : BitVec 32 := Scalar.muli v18 c4_i32_11
  let c4_i32_0 : BitVec 32 := 4#32
  let v4 : BitVec 32 := Scalar.remsi v2 c4_i32_0
  let v20 : BitVec 32 := Scalar.addi v19 v4
  let c1_i32_692 : BitVec 32 := 1#32
  let v854 : BitVec 32 := Scalar.muli v20 c1_i32_692
  let v855 : BitVec 32 := Scalar.addi c0_i32_693 v854
  v855.toNat
def k0_off17 (d0 : Dev nD) (c0_i32_700 : BitVec 32) (c1_i32_697 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_699 : BitVec 32 := 1#32
  let v865 : BitVec 32 := Scalar.addi v4 c1_i32_699
  let v866 : BitVec 32 := Scalar.addi v865 c0_i32_700
  let c4_i32_701 : BitVec 32 := 4#32
  let v867 : BitVec 32 := Scalar.remsi v866 c4_i32_701
  let c256_i32_702 : BitVec 32 := 256#32
  let v868 : BitVec 32 := Scalar.muli v867 c256_i32_702
  let c4_i32 : BitVec 32 := 4#32
  let v3 : BitVec 32 := Scalar.divsi v2 c4_i32
  let c1_i32_696 : BitVec 32 := 1#32
  let v862 : BitVec 32 := Scalar.addi v3 c1_i32_696
  let v863 : BitVec 32 := Scalar.addi v862 c1_i32_697
  let c4_i32_698 : BitVec 32 := 4#32
  let v864 : BitVec 32 := Scalar.remsi v863 c4_i32_698
  let c64_i32_703 : BitVec 32 := 64#32
  let v869 : BitVec 32 := Scalar.muli v864 c64_i32_703
  let v870 : BitVec 32 := Scalar.addi v868 v869
  let c512_i32_707 : BitVec 32 := 512#32
  ![v870.toNat, 512]
def k0_dev33 (d0 : Dev nD) : Nat :=
  let c0_i32_706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_4 : BitVec 32 := 4#32
  let v9 : BitVec 32 := Scalar.muli v3 c4_i32_4
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_705 : BitVec 32 := 1#32
  let v871 : BitVec 32 := Scalar.muli v12 c1_i32_705
  let v872 : BitVec 32 := Scalar.addi c0_i32_706 v871
  v872.toNat
def k0_dev34 (d0 : Dev nD) : Nat :=
  let c0_i32_725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_724 : BitVec 32 := 1#32
  let v894 : BitVec 32 := Scalar.muli v8 c1_i32_724
  let v895 : BitVec 32 := Scalar.addi c0_i32_725 v894
  v895.toNat
def k0_dev35 (d0 : Dev nD) : Nat :=
  let c0_i32_743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_4 : BitVec 32 := 4#32
  let v9 : BitVec 32 := Scalar.muli v3 c4_i32_4
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_742 : BitVec 32 := 1#32
  let v916 : BitVec 32 := Scalar.muli v12 c1_i32_742
  let v917 : BitVec 32 := Scalar.addi c0_i32_743 v916
  v917.toNat
def k0_dev36 (d0 : Dev nD) : Nat :=
  let c0_i32_764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_763 : BitVec 32 := 1#32
  let v941 : BitVec 32 := Scalar.muli v8 c1_i32_763
  let v942 : BitVec 32 := Scalar.addi c0_i32_764 v941
  v942.toNat
def k0_dev37 (d0 : Dev nD) : Nat :=
  let c0_i32_783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_4 : BitVec 32 := 4#32
  let v9 : BitVec 32 := Scalar.muli v3 c4_i32_4
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_782 : BitVec 32 := 1#32
  let v964 : BitVec 32 := Scalar.muli v12 c1_i32_782
  let v965 : BitVec 32 := Scalar.addi c0_i32_783 v964
  v965.toNat
def k0_dev38 (d0 : Dev nD) : Nat :=
  let c0_i32_799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_6 : BitVec 32 := 1#32
  let v13 : BitVec 32 := Scalar.addi v3 c1_i32_6
  let c4_i32_7 : BitVec 32 := 4#32
  let v14 : BitVec 32 := Scalar.remsi v13 c4_i32_7
  let c4_i32_8 : BitVec 32 := 4#32
  let v15 : BitVec 32 := Scalar.muli v14 c4_i32_8
  let c4_i32_0 : BitVec 32 := 4#32
  let v4 : BitVec 32 := Scalar.remsi v2 c4_i32_0
  let v16 : BitVec 32 := Scalar.addi v15 v4
  let c1_i32_798 : BitVec 32 := 1#32
  let v984 : BitVec 32 := Scalar.muli v16 c1_i32_798
  let v985 : BitVec 32 := Scalar.addi c0_i32_799 v984
  v985.toNat
def k0_dev39 (d0 : Dev nD) : Nat :=
  let c0_i32_814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_813 : BitVec 32 := 1#32
  let v1003 : BitVec 32 := Scalar.muli v8 c1_i32_813
  let v1004 : BitVec 32 := Scalar.addi c0_i32_814 v1003
  v1004.toNat
def k0_dev40 (d0 : Dev nD) : Nat :=
  let c0_i32_829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_9 : BitVec 32 := 3#32
  let v17 : BitVec 32 := Scalar.addi v3 c3_i32_9
  let c4_i32_10 : BitVec 32 := 4#32
  let v18 : BitVec 32 := Scalar.remsi v17 c4_i32_10
  let c4_i32_11 : BitVec 32 := 4#32
  let v19 : BitVec 32 := Scalar.muli v18 c4_i32_11
  let c4_i32_0 : BitVec 32 := 4#32
  let v4 : BitVec 32 := Scalar.remsi v2 c4_i32_0
  let v20 : BitVec 32 := Scalar.addi v19 v4
  let c1_i32_828 : BitVec 32 := 1#32
  let v1022 : BitVec 32 := Scalar.muli v20 c1_i32_828
  let v1023 : BitVec 32 := Scalar.addi c0_i32_829 v1022
  v1023.toNat
def k0_dev41 (d0 : Dev nD) : Nat :=
  let c0_i32_842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_4 : BitVec 32 := 4#32
  let v9 : BitVec 32 := Scalar.muli v3 c4_i32_4
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_841 : BitVec 32 := 1#32
  let v1039 : BitVec 32 := Scalar.muli v12 c1_i32_841
  let v1040 : BitVec 32 := Scalar.addi c0_i32_842 v1039
  v1040.toNat
def k0_dev42 (d0 : Dev nD) : Nat :=
  let c0_i32_863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_862 : BitVec 32 := 1#32
  let v1064 : BitVec 32 := Scalar.muli v8 c1_i32_862
  let v1065 : BitVec 32 := Scalar.addi c0_i32_863 v1064
  v1065.toNat
def k0_dev43 (d0 : Dev nD) : Nat :=
  let c0_i32_882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_4 : BitVec 32 := 4#32
  let v9 : BitVec 32 := Scalar.muli v3 c4_i32_4
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_881 : BitVec 32 := 1#32
  let v1087 : BitVec 32 := Scalar.muli v12 c1_i32_881
  let v1088 : BitVec 32 := Scalar.addi c0_i32_882 v1087
  v1088.toNat
def k0_dev44 (d0 : Dev nD) : Nat :=
  let c0_i32_903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_902 : BitVec 32 := 1#32
  let v1112 : BitVec 32 := Scalar.muli v8 c1_i32_902
  let v1113 : BitVec 32 := Scalar.addi c0_i32_903 v1112
  v1113.toNat
def k0_dev45 (d0 : Dev nD) : Nat :=
  let c0_i32_922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_4 : BitVec 32 := 4#32
  let v9 : BitVec 32 := Scalar.muli v3 c4_i32_4
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_921 : BitVec 32 := 1#32
  let v1135 : BitVec 32 := Scalar.muli v12 c1_i32_921
  let v1136 : BitVec 32 := Scalar.addi c0_i32_922 v1135
  v1136.toNat
def k0_dev46 (d0 : Dev nD) : Nat :=
  let c0_i32_942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_935 : BitVec 32 := 4#32
  let v1153 : BitVec 32 := Scalar.muli v3 c4_i32_935
  let c4_i32_0 : BitVec 32 := 4#32
  let v4 : BitVec 32 := Scalar.remsi v2 c4_i32_0
  let c1_i32_936 : BitVec 32 := 1#32
  let v1154 : BitVec 32 := Scalar.addi v4 c1_i32_936
  let c0_i32_937 : BitVec 32 := 0#32
  let v1155 : BitVec 32 := Scalar.addi v1154 c0_i32_937
  let c4_i32_938 : BitVec 32 := 4#32
  let v1156 : BitVec 32 := Scalar.remsi v1155 c4_i32_938
  let v1157 : BitVec 32 := Scalar.addi v1153 v1156
  let c1_i32_941 : BitVec 32 := 1#32
  let v1160 : BitVec 32 := Scalar.muli v1157 c1_i32_941
  let v1161 : BitVec 32 := Scalar.addi c0_i32_942 v1160
  v1161.toNat
def k0_dev47 (d0 : Dev nD) : Nat :=
  let c0_i32_956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_949 : BitVec 32 := 4#32
  let v1172 : BitVec 32 := Scalar.muli v3 c4_i32_949
  let c4_i32_0 : BitVec 32 := 4#32
  let v4 : BitVec 32 := Scalar.remsi v2 c4_i32_0
  let c1_i32_950 : BitVec 32 := 1#32
  let v1173 : BitVec 32 := Scalar.addi v4 c1_i32_950
  let c1_i32_951 : BitVec 32 := 1#32
  let v1174 : BitVec 32 := Scalar.addi v1173 c1_i32_951
  let c4_i32_952 : BitVec 32 := 4#32
  let v1175 : BitVec 32 := Scalar.remsi v1174 c4_i32_952
  let v1176 : BitVec 32 := Scalar.addi v1172 v1175
  let c1_i32_955 : BitVec 32 := 1#32
  let v1179 : BitVec 32 := Scalar.muli v1176 c1_i32_955
  let v1180 : BitVec 32 := Scalar.addi c0_i32_956 v1179
  v1180.toNat
def k0_dev48 (d0 : Dev nD) : Nat :=
  let c0_i32_970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_963 : BitVec 32 := 4#32
  let v1191 : BitVec 32 := Scalar.muli v3 c4_i32_963
  let c4_i32_0 : BitVec 32 := 4#32
  let v4 : BitVec 32 := Scalar.remsi v2 c4_i32_0
  let c1_i32_964 : BitVec 32 := 1#32
  let v1192 : BitVec 32 := Scalar.addi v4 c1_i32_964
  let c2_i32_965 : BitVec 32 := 2#32
  let v1193 : BitVec 32 := Scalar.addi v1192 c2_i32_965
  let c4_i32_966 : BitVec 32 := 4#32
  let v1194 : BitVec 32 := Scalar.remsi v1193 c4_i32_966
  let v1195 : BitVec 32 := Scalar.addi v1191 v1194
  let c1_i32_969 : BitVec 32 := 1#32
  let v1198 : BitVec 32 := Scalar.muli v1195 c1_i32_969
  let v1199 : BitVec 32 := Scalar.addi c0_i32_970 v1198
  v1199.toNat
def k0_dev49 (d0 : Dev nD) : Nat :=
  let c0_i32_990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_982 : BitVec 32 := 4#32
  let v1215 : BitVec 32 := Scalar.muli v3 c4_i32_982
  let c4_i32_0 : BitVec 32 := 4#32
  let v4 : BitVec 32 := Scalar.remsi v2 c4_i32_0
  let c1_i32_983 : BitVec 32 := 1#32
  let v1216 : BitVec 32 := Scalar.subi v4 c1_i32_983
  let c0_i32_984 : BitVec 32 := 0#32
  let v1217 : BitVec 32 := Scalar.subi v1216 c0_i32_984
  let c8_i32_985 : BitVec 32 := 8#32
  let v1218 : BitVec 32 := Scalar.addi v1217 c8_i32_985
  let c4_i32_986 : BitVec 32 := 4#32
  let v1219 : BitVec 32 := Scalar.remsi v1218 c4_i32_986
  let v1220 : BitVec 32 := Scalar.addi v1215 v1219
  let c1_i32_989 : BitVec 32 := 1#32
  let v1223 : BitVec 32 := Scalar.muli v1220 c1_i32_989
  let v1224 : BitVec 32 := Scalar.addi c0_i32_990 v1223
  v1224.toNat
def k0_dev50 (d0 : Dev nD) : Nat :=
  let c0_i32_1004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_996 : BitVec 32 := 4#32
  let v1234 : BitVec 32 := Scalar.muli v3 c4_i32_996
  let c4_i32_0 : BitVec 32 := 4#32
  let v4 : BitVec 32 := Scalar.remsi v2 c4_i32_0
  let c1_i32_997 : BitVec 32 := 1#32
  let v1235 : BitVec 32 := Scalar.subi v4 c1_i32_997
  let c1_i32_998 : BitVec 32 := 1#32
  let v1236 : BitVec 32 := Scalar.subi v1235 c1_i32_998
  let c8_i32_999 : BitVec 32 := 8#32
  let v1237 : BitVec 32 := Scalar.addi v1236 c8_i32_999
  let c4_i32_1000 : BitVec 32 := 4#32
  let v1238 : BitVec 32 := Scalar.remsi v1237 c4_i32_1000
  let v1239 : BitVec 32 := Scalar.addi v1234 v1238
  let c1_i32_1003 : BitVec 32 := 1#32
  let v1242 : BitVec 32 := Scalar.muli v1239 c1_i32_1003
  let v1243 : BitVec 32 := Scalar.addi c0_i32_1004 v1242
  v1243.toNat
def k0_dev51 (d0 : Dev nD) : Nat :=
  let c0_i32_1018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1010 : BitVec 32 := 4#32
  let v1253 : BitVec 32 := Scalar.muli v3 c4_i32_1010
  let c4_i32_0 : BitVec 32 := 4#32
  let v4 : BitVec 32 := Scalar.remsi v2 c4_i32_0
  let c1_i32_1011 : BitVec 32 := 1#32
  let v1254 : BitVec 32 := Scalar.subi v4 c1_i32_1011
  let c2_i32_1012 : BitVec 32 := 2#32
  let v1255 : BitVec 32 := Scalar.subi v1254 c2_i32_1012
  let c8_i32_1013 : BitVec 32 := 8#32
  let v1256 : BitVec 32 := Scalar.addi v1255 c8_i32_1013
  let c4_i32_1014 : BitVec 32 := 4#32
  let v1257 : BitVec 32 := Scalar.remsi v1256 c4_i32_1014
  let v1258 : BitVec 32 := Scalar.addi v1253 v1257
  let c1_i32_1017 : BitVec 32 := 1#32
  let v1261 : BitVec 32 := Scalar.muli v1258 c1_i32_1017
  let v1262 : BitVec 32 := Scalar.addi c0_i32_1018 v1261
  v1262.toNat
def k0_dev52 (d0 : Dev nD) : Nat :=
  let c0_i32_1039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_1038 : BitVec 32 := 1#32
  let v1286 : BitVec 32 := Scalar.muli v8 c1_i32_1038
  let v1287 : BitVec 32 := Scalar.addi c0_i32_1039 v1286
  v1287.toNat
def k0_dev53 (d0 : Dev nD) : Nat :=
  let c0_i32_1058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_4 : BitVec 32 := 4#32
  let v9 : BitVec 32 := Scalar.muli v3 c4_i32_4
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_1057 : BitVec 32 := 1#32
  let v1309 : BitVec 32 := Scalar.muli v12 c1_i32_1057
  let v1310 : BitVec 32 := Scalar.addi c0_i32_1058 v1309
  v1310.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384x1024 : Shape := ⟨2, ![16384, 1024]⟩
abbrev S1024x1024 : Shape := ⟨2, ![1024, 1024]⟩
abbrev S1x1024 : Shape := ⟨2, ![1, 1024]⟩
abbrev S16x1024x1024 : Shape := ⟨3, ![16, 1024, 1024]⟩
abbrev S_ : Shape := ⟨0, ![]⟩
abbrev S1024 : Shape := ⟨1, ![1024]⟩
abbrev S1024x1 : Shape := ⟨2, ![1024, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1x1024, .f32⟩
  | .hbm, ⟨3, _⟩ => ⟨S16x1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Plan.lean ====
/-
  The plan of the transfers: the torus of four by four devices, the rows and columns each transfer moves, and the order
  in which one device signals, waits, sends, adds and stores. Nothing here depends on the values moved.

  A device `4 * g + q` has a place `q` in its ring of four and a number `g` of that ring. The result array is held in
  32 chunks: column half `d`, quarter `a` of the rows, row block `b` of the quarter. A chunk is named relative to a
  device: `(d, ja, jb)` is the chunk with `a = q + ja`, `b = g + jb`.
-/
module

public import proofs.«01_k».proof.Proof.Gen.KernelIdeal

@[expose] public section

namespace Cert.Plan

open Cert.KernelIdeal Cert.KernelIdeal.Gen
open Idealize.ShloMosaic

/-! ## The devices -/

/-- A device's place in its ring, -/
def qd (c : Dev nD) : Fin 4 := ⟨c.val % 4, Nat.mod_lt _ (by decide)⟩
/-- and the number of its ring. -/
def gd (c : Dev nD) : Fin 4 := ⟨c.val / 4 % 4, Nat.mod_lt _ (by decide)⟩
/-- The device `a` places further in the ring, `b` rings further. -/
def mv (a b : Fin 4) (c : Dev nD) : Dev nD := ⟨4 * (gd c + b).val + (qd c + a).val, by
  have h1 := (gd c + b).isLt; have h2 := (qd c + a).isLt; show _ < 16; omega⟩

theorem f4_assoc (a b c : Fin 4) : a + b + c = a + (b + c) := by revert a b c; decide
theorem f4_zero (a : Fin 4) : a + 0 = a := by revert a; decide
theorem f4_neg (a : Fin 4) : a + -a = 0 := by revert a; decide
theorem f4_neg' (a : Fin 4) : -a + a = 0 := by revert a; decide

theorem qd_mv (a b : Fin 4) (c : Dev nD) : qd (mv a b c) = qd c + a := by
  refine Fin.ext ?_; have h := (qd c + a).isLt; simp only [qd, mv] at *; omega
theorem gd_mv (a b : Fin 4) (c : Dev nD) : gd (mv a b c) = gd c + b := by
  refine Fin.ext ?_; have h := (qd c + a).isLt; have h' := (gd c + b).isLt; simp only [qd, gd, mv] at *; omega
theorem dev_ext {c d : Dev nD} (h₁ : qd c = qd d) (h₂ : gd c = gd d) : c = d := by
  refine Fin.ext ?_
  have e₁ := congrArg Fin.val h₁; have e₂ := congrArg Fin.val h₂
  have l₁ : c.val < 16 := c.isLt
  have l₂ : d.val < 16 := d.isLt
  simp only [qd, gd] at e₁ e₂; omega
theorem mv_mv (a b a' b' : Fin 4) (c : Dev nD) : mv a b (mv a' b' c) = mv (a' + a) (b' + b) c := by
  refine dev_ext ?_ ?_
  · rw [qd_mv, qd_mv, qd_mv, f4_assoc]
  · rw [gd_mv, gd_mv, gd_mv, f4_assoc]
theorem mv_zero (c : Dev nD) : mv 0 0 c = c := by
  refine dev_ext ?_ ?_
  · rw [qd_mv, f4_zero]
  · rw [gd_mv, f4_zero]
theorem mv_neg_mv (a b : Fin 4) (c : Dev nD) : mv (-a) (-b) (mv a b c) = c := by
  rw [mv_mv, f4_neg, f4_neg, mv_zero]
theorem mv_mv_neg (a b : Fin 4) (c : Dev nD) : mv a b (mv (-a) (-b) c) = c := by
  rw [mv_mv, f4_neg', f4_neg', mv_zero]

/-- Moving by a fixed step permutes the devices. -/
def mvEquiv (a b : Fin 4) : Dev nD ≃ Dev nD := ⟨mv a b, mv (-a) (-b), mv_neg_mv a b, mv_mv_neg a b⟩

/-! ## The transfers -/

/-- Transfer `k` of a device: it goes `dq` places and `dg` rings further and moves chunk `(d, ja, jb)` of the sender
    (of the first four transfers: the whole quarter `(d, ja)`). -/
structure Ent where
  dq : Fin 4
  dg : Fin 4
  d : Fin 2
  ja : Fin 4
  jb : Fin 4
deriving DecidableEq

/-- The right to write a chunk of the result array of the device `pq` places and `pg` rings further. -/
structure Right where
  pq : Fin 4
  pg : Fin 4
  d : Fin 2
  ja : Fin 4
  jb : Fin 4
deriving DecidableEq

/-- The 48 transfers: 0–3 the two quarters each ring direction passes on, 4–11 the chunks brought to their ring place,
    12–17 the chunks brought to their ring, 18–23 the finished chunks through the rings, 24–35 and 36–47 through
    the places. -/
def entL : List Ent := [
  ⟨1,0,0,0,0⟩, ⟨1,0,0,3,0⟩, ⟨3,0,1,2,0⟩, ⟨3,0,1,3,0⟩, ⟨1,0,0,2,0⟩, ⟨1,0,0,2,3⟩, ⟨1,0,0,2,2⟩, ⟨1,0,0,2,1⟩, ⟨3,0,1,0,2⟩,
  ⟨3,0,1,0,3⟩, ⟨3,0,1,0,0⟩, ⟨3,0,1,0,1⟩, ⟨0,1,0,1,0⟩, ⟨0,1,0,1,3⟩, ⟨0,1,0,1,2⟩, ⟨0,3,1,1,2⟩, ⟨0,3,1,1,3⟩, ⟨0,3,1,1,0⟩,
  ⟨0,1,0,1,1⟩, ⟨0,1,0,1,0⟩, ⟨0,1,0,1,3⟩, ⟨0,3,1,1,1⟩, ⟨0,3,1,1,2⟩, ⟨0,3,1,1,3⟩, ⟨1,0,0,1,1⟩, ⟨1,0,0,0,1⟩, ⟨1,0,0,3,1⟩,
  ⟨1,0,0,1,0⟩, ⟨1,0,0,0,0⟩, ⟨1,0,0,3,0⟩, ⟨1,0,0,1,3⟩, ⟨1,0,0,0,3⟩, ⟨1,0,0,3,3⟩, ⟨1,0,0,1,2⟩, ⟨2,0,0,1,2⟩, ⟨3,0,0,1,2⟩,
  ⟨3,0,1,1,1⟩, ⟨3,0,1,2,1⟩, ⟨3,0,1,3,1⟩, ⟨3,0,1,1,2⟩, ⟨3,0,1,2,2⟩, ⟨3,0,1,3,2⟩, ⟨3,0,1,1,3⟩, ⟨3,0,1,2,3⟩, ⟨3,0,1,3,3⟩,
  ⟨3,0,1,1,0⟩, ⟨2,0,1,1,0⟩, ⟨1,0,1,1,0⟩]

/-- The rights a transfer hands its receiver besides what lands, named from the sender. -/
def rightL : List (List Right) := [
  [], [⟨0,0,0,3,0⟩, ⟨0,0,0,3,1⟩, ⟨0,0,0,3,2⟩, ⟨0,0,0,3,3⟩], [], [⟨0,0,1,3,2⟩, ⟨0,0,1,3,1⟩, ⟨0,0,1,3,0⟩, ⟨0,0,1,3,3⟩],
  [⟨0,0,0,2,0⟩, ⟨3,0,0,2,0⟩], [⟨0,0,0,2,3⟩, ⟨3,0,0,2,3⟩], [⟨0,0,0,2,2⟩, ⟨3,0,0,2,2⟩], [⟨0,0,0,2,1⟩, ⟨3,0,0,2,1⟩],
  [⟨0,0,1,0,2⟩, ⟨1,0,1,0,2⟩], [⟨0,0,1,0,3⟩, ⟨1,0,1,0,3⟩], [⟨0,0,1,0,0⟩, ⟨1,0,1,0,0⟩], [⟨0,0,1,0,1⟩, ⟨1,0,1,0,1⟩],
  [⟨0,0,0,1,0⟩], [⟨0,0,0,1,3⟩, ⟨0,3,0,1,3⟩], [⟨0,0,0,1,2⟩, ⟨0,3,0,1,2⟩, ⟨0,2,0,1,2⟩], [⟨0,0,1,1,2⟩], [⟨0,0,1,1,3⟩,
  ⟨0,1,1,1,3⟩], [⟨0,0,1,1,0⟩, ⟨0,1,1,1,0⟩, ⟨0,2,1,1,0⟩], [⟨0,2,0,1,1⟩, ⟨0,3,0,1,1⟩], [⟨0,2,0,1,0⟩], [], [⟨0,2,1,1,1⟩,
  ⟨0,1,1,1,1⟩], [⟨0,2,1,1,2⟩], [], [⟨2,0,0,1,1⟩, ⟨3,0,0,1,1⟩], [⟨2,0,0,0,1⟩], [], [⟨2,0,0,1,0⟩, ⟨3,0,0,1,0⟩],
  [⟨2,0,0,0,0⟩], [], [⟨2,0,0,1,3⟩, ⟨3,0,0,1,3⟩], [⟨2,0,0,0,3⟩], [], [], [], [], [⟨2,0,1,1,1⟩, ⟨1,0,1,1,1⟩],
  [⟨2,0,1,2,1⟩], [], [⟨2,0,1,1,2⟩, ⟨1,0,1,1,2⟩], [⟨2,0,1,2,2⟩], [], [⟨2,0,1,1,3⟩, ⟨1,0,1,1,3⟩], [⟨2,0,1,2,3⟩], [], [],
  [], []]

def ent (k : Fin 48) : Ent := entL.getD k.val ⟨0, 0, 0, 0, 0⟩
def rights (k : Fin 48) : List Right := rightL.getD k.val []

/-- Where transfer `k` of device `c` goes, -/
def tgt (k : Fin 48) (c : Dev nD) : Dev nD := mv (ent k).dq (ent k).dg c
/-- and which device's transfer `k` device `c` receives. -/
def src (k : Fin 48) (c : Dev nD) : Dev nD := mv (-(ent k).dq) (-(ent k).dg) c

theorem tgt_src (k : Fin 48) (c : Dev nD) : tgt k (src k c) = c := mv_mv_neg _ _ c
theorem src_tgt (k : Fin 48) (c : Dev nD) : src k (tgt k c) = c := mv_neg_mv _ _ c

/-- The five neighbours signalled at the start. -/
def nbStep (i : Fin 5) : Fin 4 × Fin 4 := [((1 : Fin 4), (0 : Fin 4)), (3, 0), (0, 1), (0, 3), (2, 0)].getD i.val (0, 0)
def nb (i : Fin 5) (c : Dev nD) : Dev nD := mv (nbStep i).1 (nbStep i).2 c
def nbInv (i : Fin 5) (c : Dev nD) : Dev nD := mv (-(nbStep i).1) (-(nbStep i).2) c
theorem nb_nbInv (i : Fin 5) (c : Dev nD) : nb i (nbInv i c) = c := mv_mv_neg _ _ c
theorem nbInv_nb (i : Fin 5) (c : Dev nD) : nbInv i (nb i c) = c := mv_neg_mv _ _ c

/-! ## What one device holds, and what it does -/

/-- What a device may hold at a point of its program. -/
inductive Hold where
  /-- a chunk of a result array, at any contents; -/
  | any (r : Right)
  /-- landing slot `k` of the device `dq` places and `dg` rings further, at any contents; -/
  | slot (dq dg : Fin 4) (k : Fin 18)
  /-- its own landing slot `k` with what transfer `k` put there; -/
  | landed (k : Fin 18)
  /-- its own chunk holding the partial sum of stage `st`; -/
  | acc (st : Fin 6) (d : Fin 2) (ja jb : Fin 4)
  /-- a share of its own chunk holding the finished result; -/
  | out (d : Fin 2) (ja jb : Fin 4) (s : Fin 6)
  /-- the share of its operand that transfer 0 (`d = 0`) or 2 (`d = 1`) reads; -/
  | opnd (d : Fin 2)
  /-- the credit of its transfer `k`; -/
  | credit (k : Fin 48)
  /-- its send, receive and entry counters, at zero again. -/
  | sentZ (k : Fin 48)
  | recvZ (k : Fin 48)
  | barZ
deriving DecidableEq

/-- What a device does. -/
inductive Act where
  | sig (i : Fin 5)
  | bar
  | send (k : Fin 48)
  | recv (k : Fin 48)
  | acc (k : Fin 18)
  | norm
  | swait (k : Fin 48)
deriving DecidableEq

/-- The actions in program order. -/
def acts : List Act := [
  .sig 0, .sig 1, .sig 2, .sig 3, .sig 4, .bar, .send 0, .send 2, .recv 0, .acc 0, .send 1, .recv 2, .acc 2, .send 3,
  .recv 1, .acc 1, .send 4, .recv 3, .acc 3, .send 8, .recv 4, .acc 4, .send 12, .send 5, .recv 8, .acc 8, .send 15,
  .send 9, .recv 5, .acc 5, .send 6, .recv 9, .acc 9, .send 10, .recv 12, .acc 12, .send 13, .recv 15, .acc 15,
  .send 16, .recv 6, .acc 6, .send 7, .recv 10, .acc 10, .send 11, .recv 13, .acc 13, .send 14, .recv 16, .acc 16,
  .send 17, .recv 7, .acc 7, .recv 11, .acc 11, .recv 14, .acc 14, .recv 17, .acc 17, .norm, .send 18, .send 24,
  .send 21, .send 36, .recv 24, .send 25, .recv 36, .send 37, .recv 18, .send 19, .send 27, .recv 21, .send 22,
  .send 39, .recv 25, .send 26, .recv 37, .send 38, .recv 27, .send 28, .recv 39, .send 40, .recv 19, .send 20,
  .send 30, .recv 22, .send 23, .send 42, .recv 28, .send 29, .recv 40, .send 41, .recv 30, .send 31, .recv 42,
  .send 43, .recv 20, .send 33, .send 34, .send 35, .recv 23, .send 45, .send 46, .send 47, .recv 31, .send 32,
  .recv 43, .send 44, .recv 33, .recv 34, .recv 35, .recv 45, .recv 46, .recv 47, .recv 26, .recv 29, .recv 32,
  .recv 38, .recv 41, .recv 44, .swait 0, .swait 2, .swait 1, .swait 3, .swait 4, .swait 8, .swait 12, .swait 5,
  .swait 15, .swait 9, .swait 6, .swait 10, .swait 13, .swait 16, .swait 7, .swait 11, .swait 14, .swait 17, .swait 18,
  .swait 24, .swait 21, .swait 36, .swait 25, .swait 37, .swait 19, .swait 27, .swait 22, .swait 39, .swait 26,
  .swait 38, .swait 28, .swait 40, .swait 20, .swait 30, .swait 23, .swait 42, .swait 29, .swait 41, .swait 31,
  .swait 43, .swait 33, .swait 34, .swait 35, .swait 45, .swait 46, .swait 47, .swait 32, .swait 44]

/-- The actions from the `i`-th on. -/
def tail (i : ℕ) : List Act := acts.drop i

def lift18 (k : Fin 18) : Fin 48 := ⟨k.val, by omega⟩

/-- The share of its source chunk that transfer `k` of the finished result reads, -/
def shareOf (k : Fin 48) : Fin 6 :=
  if k.val < 24 then 1 else if k.val = 33 ∨ k.val = 45 then 3 else if k.val = 34 ∨ k.val = 46 then 4
  else if k.val = 35 ∨ k.val = 47 then 5 else if k.val % 12 = 0 ∨ k.val % 12 = 3 ∨ k.val % 12 = 6 then 2 else 0
/-- and the shares that a chunk it received is parted into. -/
def sharesOf (k : Fin 48) : List (Fin 6) :=
  if k.val = 20 ∨ k.val = 23 then [3, 4, 5] else if k.val < 24 then [1, 2] else [0]

/-- A right as its receiver names it, the sender being `dq` places and `dg` rings before. -/
def Right.shift (dq dg : Fin 4) (r : Right) : Right := ⟨r.pq - dq, r.pg - dg, r.d, r.ja - dq, r.jb - dg⟩

/-- The chunk of transfer `k` as its receiver names it. -/
def rja (k : Fin 48) : Fin 4 := (ent k).ja - (ent k).dq
def rjb (k : Fin 48) : Fin 4 := (ent k).jb - (ent k).dg

def four : List (Fin 4) := [0, 1, 2, 3]

/-- What the signal to neighbour `i` hands over: the landing slots and the chunks that neighbour's transfers write. -/
def given (i : Fin 5) : List Hold :=
  [ [.slot 0 0 2, .slot 0 0 3, .slot 0 0 8, .slot 0 0 9, .slot 0 0 10, .slot 0 0 11, .any ⟨0, 0, 1, 2, 0⟩, .any ⟨0, 0, 1, 2, 1⟩, .any ⟨0, 0, 1, 2, 2⟩, .any ⟨0, 0, 1, 2, 3⟩],
    [.slot 0 0 0, .slot 0 0 1, .slot 0 0 4, .slot 0 0 5, .slot 0 0 6, .slot 0 0 7, .any ⟨0, 0, 0, 0, 0⟩, .any ⟨0, 0, 0, 0, 1⟩, .any ⟨0, 0, 0, 0, 2⟩, .any ⟨0, 0, 0, 0, 3⟩],
    [.slot 0 0 15, .slot 0 0 16, .slot 0 0 17],
    [.slot 0 0 12, .slot 0 0 13, .slot 0 0 14],
    [] ].getD i.val []

/-- Something held, as the device `dq` places and `dg` rings after names it. -/
def Hold.shift (dq dg : Fin 4) : Hold → Hold
  | .any r => .any (r.shift dq dg)
  | .slot a b k => .slot (a - dq) (b - dg) k
  | h => h

/-- The stage of the partial sum that transfer `k` moves, -/
def stageOf (k : Fin 48) : Fin 6 :=
  if k.val < 4 then 0 else if k.val < 12 then 1 else if k.val = 12 ∨ k.val = 15 then 2 else if k.val = 13 ∨ k.val = 16 then 3 else 4
/-- and that of the sum made from landing slot `k`. -/
def madeOf (k : Fin 18) : Fin 6 :=
  if k.val < 4 then (if k.val % 2 = 0 then 0 else 1) else if k.val < 12 then 2
  else if k.val = 12 ∨ k.val = 15 then 3 else if k.val = 13 ∨ k.val = 16 then 4 else 5

/-- What a transfer spends: its source, then where it lands, then the rights it hands over. -/
def spend (k : Fin 48) : List Hold :=
  if k.val = 0 ∨ k.val = 2 then [.opnd (ent k).d, .slot (ent k).dq (ent k).dg ⟨k.val % 18, by omega⟩]
  else if k.val < 4 then four.map (.acc 0 (ent k).d (ent k).ja) ++ [.slot (ent k).dq (ent k).dg ⟨k.val % 18, by omega⟩]
  else if k.val < 18 then
    [.acc (stageOf k) (ent k).d (ent k).ja (ent k).jb, .slot (ent k).dq (ent k).dg ⟨k.val % 18, by omega⟩] ++ (rights k).tail.map .any
  else [.out (ent k).d (ent k).ja (ent k).jb (shareOf k), .any ⟨(ent k).dq, (ent k).dg, (ent k).d, (ent k).ja, (ent k).jb⟩]
    ++ (rights k).map .any

/-- What an action needs and uses up, -/
def need : Act → List Hold
  | .sig i => given i
  | .bar => []
  | .send k => spend k
  | .recv _ => []
  | .acc k => .landed k ::
      (if k.val < 4 then four.map fun b => .any ⟨0, 0, (ent (lift18 k)).d, rja (lift18 k), b⟩
       else if k.val < 12 then [.any ⟨0, 0, (ent (lift18 k)).d, rja (lift18 k), rjb (lift18 k)⟩]
       else [.acc 2 (ent (lift18 k)).d (rja (lift18 k)) (rjb (lift18 k))])
  | .norm => [.acc 5 0 1 1, .acc 5 1 1 1]
  | .swait k => [.credit k]

/-- and what it leaves. -/
def gain : Act → List Hold
  | .sig _ => []
  | .bar => .barZ :: (List.finRange 5).flatMap fun i => (given i).map (Hold.shift (nbStep i).1 (nbStep i).2)
  | .send k => [.credit k]
  | .recv k => .recvZ k :: ((if h : k.val < 18 then [.landed ⟨k.val, h⟩] else (sharesOf k).map (.out (ent k).d (rja k) (rjb k)))
      ++ (rights k).map fun r => .any (r.shift (ent k).dq (ent k).dg))
  | .acc k => .slot 0 0 k ::
      (if k.val < 4 then four.map (.acc (madeOf k) (ent (lift18 k)).d (rja (lift18 k)))
       else [.acc (madeOf k) (ent (lift18 k)).d (rja (lift18 k)) (rjb (lift18 k))])
  | .norm => [.out 0 1 1 1, .out 0 1 1 2, .out 1 1 1 1, .out 1 1 1 2]
  | .swait k => .sentZ k :: (if k.val = 0 ∨ k.val = 2 then [.opnd (ent k).d] else if k.val < 18 then []
      else [.out (ent k).d (ent k).ja (ent k).jb (shareOf k)])

/-! ## The order is sound -/

/-- The place of transfer `k` among the transfers in program order: the rank of the wait for it. -/
def rank (k : Fin 48) : ℕ := (acts.filterMap fun a => match a with | .send j => some j | _ => none).idxOf k

/-- A wait may be made only while nothing of lower rank is owed. -/
def mayWait : Act → List Act → Bool
  | .bar, l => l.all fun a => match a with | .sig _ => false | _ => true
  | .recv k, l => l.all fun a => match a with | .sig _ => false | .send j => rank k < rank j | _ => true
  | .swait _, l => l.all fun a => match a with | .sig _ => false | .send _ => false | _ => true
  | _, _ => true

/-- Take the listed things out of what is held, if all are there. -/
def takeAll : List Hold → List Hold → Option (List Hold)
  | [], H => some H
  | n :: ns, H => if n ∈ H then takeAll ns (H.erase n) else none

/-- All chunks of the own result array, with the shares they end in, -/
def finalShares (d : Fin 2) (ja jb : Fin 4) : List (Fin 6) :=
  if ja = 1 then (if (d = 0 ∧ jb = 2) ∨ (d = 1 ∧ jb = 0) then [3, 4, 5] else [1, 2]) else [0]
def pairs : List (Fin 2 × Fin 4 × Fin 4) := (List.finRange 2).flatMap fun d => four.flatMap fun a => four.map fun b => (d, a, b)

/-- what is held at the start -/
def first : List Hold := pairs.map (fun p => .any ⟨0, 0, p.1, p.2.1, p.2.2⟩) ++ (List.finRange 18).map (.slot 0 0) ++ [.opnd 0, .opnd 1]
/-- and at the end. -/
def last : List Hold :=
  (pairs.flatMap fun p => (finalShares p.1 p.2.1 p.2.2).map (.out p.1 p.2.1 p.2.2)) ++ (List.finRange 18).map (.slot 0 0) ++ [.opnd 0, .opnd 1]
    ++ (.barZ :: (List.finRange 48).map .sentZ ++ (List.finRange 48).map .recvZ)

/-- The remaining actions can be done from what is held, and end at `last`. -/
def go : List Act → List Hold → Bool
  | [], H => H.isPerm last
  | a :: l, H => mayWait a l && match takeAll (need a) H with
    | none => false
    | some R => go l (gain a ++ R)

theorem go_first : go (tail 0) first = true := by decide +kernel

/-- The actions, sorted by kind. -/
def sorted : List Act :=
  (List.finRange 5).map .sig ++ [.bar] ++ (List.finRange 48).map .send ++ (List.finRange 48).map .recv
    ++ (List.finRange 18).map .acc ++ [.norm] ++ (List.finRange 48).map .swait

theorem acts_sorted : acts.isPerm sorted = true := by decide +kernel

end Cert.Plan

end
-- ==== Proof.Cells.lean ====
/-
  What the device programs hold: the chunks of the arrays, the landing slots, the counters, and the contents each of
  them has when it is handed over. The contents are written for any operands `X`, `R`, `G`, one array for each device.
-/
module

public import proofs.«01_k».proof.Proof.Plan
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Plan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the transfers' -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers -/

abbrev xM : Memref sig .tc .vmem S1024x1024 .f32 := Memref.whole cc0_stg0_0
abbrev rM : Memref sig .tc .vmem S1024x1024 .f32 := Memref.whole cc0_stg1_0
abbrev gM : Memref sig .tc .vmem S1x1024 .f32 := Memref.whole cc0_stg2_0
abbrev oM : Memref sig .tc .vmem S1024x1024 .f32 := Memref.whole cc0_stg3_0
abbrev aM : Memref sig .tc .vmem S4x256x512 .f32 := Memref.whole cc0_scratch0
abbrev bM : Memref sig .tc .vmem S8x64x512 .f32 := Memref.whole cc0_scratch1
abbrev cM : Memref sig .tc .vmem S6x64x512 .f32 := Memref.whole cc0_scratch2

theorem q_inb (d : Fin 2) (a : Fin 4) : ∀ i, (![256 * a.val, 512 * d.val] : Fin 2 → ℕ) i + S256x512.size i ≤ S1024x1024.size i := by
  revert d a; decide
theorem c_inb (d : Fin 2) (a b : Fin 4) : ∀ i, (![256 * a.val + 64 * b.val, 512 * d.val] : Fin 2 → ℕ) i + S64x512.size i ≤ S1024x1024.size i := by
  revert d a b; decide
theorem w_inb (a b : Fin 4) : ∀ i, (![256 * a.val + 64 * b.val, 0] : Fin 2 → ℕ) i + S64x1024.size i ≤ S1024x1024.size i := by
  revert a b; decide

/-- Quarter `a` of the rows in column half `d`, -/
abbrev quR (d : Fin 2) (a : Fin 4) : Rect S1024x1024 := Rect.unit (s := S1024x1024) ![256 * a.val, 512 * d.val] S256x512.size (q_inb d a)
/-- row block `b` of it, -/
abbrev chR (d : Fin 2) (a b : Fin 4) : Rect S1024x1024 := Rect.unit (s := S1024x1024) ![256 * a.val + 64 * b.val, 512 * d.val] S64x512.size (c_inb d a b)
/-- and the same rows in both halves. -/
abbrev rwR (a b : Fin 4) : Rect S1024x1024 := Rect.unit (s := S1024x1024) ![256 * a.val + 64 * b.val, 0] S64x1024.size (w_inb a b)

theorem a_inb (k : Fin 4) : ∀ i, (![k.val, 0, 0] : Fin 3 → ℕ) i + S1x256x512.size i ≤ S4x256x512.size i := by revert k; decide
theorem b_inb (k : Fin 8) : ∀ i, (![k.val, 0, 0] : Fin 3 → ℕ) i + S1x64x512.size i ≤ S8x64x512.size i := by revert k; decide
theorem cc_inb (k : Fin 6) : ∀ i, (![k.val, 0, 0] : Fin 3 → ℕ) i + S1x64x512.size i ≤ S6x64x512.size i := by revert k; decide

/-- The landing slots: four of a quarter's size, eight and six of a chunk's. -/
abbrev aR (k : Fin 4) : Rect S4x256x512 := Rect.unit (s := S4x256x512) ![k.val, 0, 0] S1x256x512.size (a_inb k)
abbrev bR (k : Fin 8) : Rect S8x64x512 := Rect.unit (s := S8x64x512) ![k.val, 0, 0] S1x64x512.size (b_inb k)
abbrev cR (k : Fin 6) : Rect S6x64x512 := Rect.unit (s := S6x64x512) ![k.val, 0, 0] S1x64x512.size (cc_inb k)
abbrev aS (k : Fin 4) : Memref sig .tc .vmem S256x512 .f32 := (aM.slice (aR k) (fun _ => rfl)).squeeze S256x512 squeezes_S1x256x512_S256x512
abbrev bS (k : Fin 8) : Memref sig .tc .vmem S64x512 .f32 := (bM.slice (bR k) (fun _ => rfl)).squeeze S64x512 squeezes_S1x64x512_S64x512
abbrev cS (k : Fin 6) : Memref sig .tc .vmem S64x512 .f32 := (cM.slice (cR k) (fun _ => rfl)).squeeze S64x512 squeezes_S1x64x512_S64x512

/-! ## The counters -/

abbrev barS : Sem sig := (SemArray.scalar (sig.barrier 0 rfl) : Sems sig S_).sem
abbrev sendS (k : Fin 48) : DmaSem sig := ⟨4 + k.val, by have := k.isLt; show _ < 100; omega⟩
abbrev recvS (k : Fin 48) : DmaSem sig := ⟨52 + k.val, by have := k.isLt; show _ < 100; omega⟩
abbrev barCell (c : Dev nD) : GSem nD τ sig := ((c : Thread nD τ), .reg barS)
abbrev sendCell (c : Dev nD) (k : Fin 48) : GSem nD τ sig := ((c : Thread nD τ), .dma (sendS k))
abbrev recvCell (c : Dev nD) (k : Fin 48) : GSem nD τ sig := ((c : Thread nD τ), .dma (recvS k))

/-- The launch's own counters: the 48 send ones, then the 48 receive ones; -/
abbrev osem (i : Fin 96) : SemLoc sig := .dma ⟨4 + i.val, by have := i.isLt; show _ < 100; omega⟩
/-- and the entry counter with them. -/
def csem (i : Fin 97) : SemLoc sig := if h : i.val < 96 then osem ⟨i.val, h⟩ else .reg barS
abbrev kcell (ck : Dev nD × Fin 97) : GSem nD τ sig := ((ck.1 : Thread nD τ), csem ck.2)
def iBar : Fin 97 := 96
def iSend (k : Fin 48) : Fin 97 := ⟨k.val, by omega⟩
def iRecv (k : Fin 48) : Fin 97 := ⟨48 + k.val, by omega⟩
theorem csem_bar : csem iBar = .reg barS := rfl
theorem csem_send (k : Fin 48) : csem (iSend k) = .dma (sendS k) := by
  unfold csem iSend; rw [dif_pos (by show k.val < 96; omega)]
theorem csem_recv (k : Fin 48) : csem (iRecv k) = .dma (recvS k) := by
  unfold csem iRecv; rw [dif_pos (by show 48 + k.val < 96; omega)]
  exact congrArg SemLoc.dma (Fin.ext (by show 4 + (48 + k.val) = 52 + k.val; omega))

abbrev NQ : ℕ := (aS 0).view.dmaCredit
abbrev NC : ℕ := (bS 0).view.dmaCredit
theorem NQ_pos : 0 < NQ := View.dmaCredit_pos _ (by decide)
theorem NC_pos : 0 < NC := View.dmaCredit_pos _ (by decide)
/-- What a transfer counts. -/
def amt (k : Fin 48) : ℕ := if k.val < 4 then NQ else NC
theorem amt_pos (k : Fin 48) : 0 < amt k := by unfold amt; split; exacts [NQ_pos, NC_pos]

/-! ## The contents -/

section Contents
variable (X R : Dev nD → Vec F S1024x1024 .f32) (G : Dev nD → Vec F S1x1024 .f32)

/-- The device a partial sum of half `d` comes from in the ring, -/
def prv (d : Fin 2) (c : Dev nD) : Dev nD := mv (if d = 0 then 3 else 1) 0 c
/-- and through the rings. -/
def prz (d : Fin 2) (c : Dev nD) : Dev nD := mv 0 (if d = 0 then 3 else 1) c

/-- The partial sums of half `d` on device `c` after each addition. -/
def sum0 (d : Fin 2) (c : Dev nD) : Vec F S1024x1024 .f32 := addf (X c) (X (prv d c))
def sum1 (d : Fin 2) (c : Dev nD) : Vec F S1024x1024 .f32 := addf (X c) (sum0 X d (prv d c))
def sum2 (d : Fin 2) (c : Dev nD) : Vec F S1024x1024 .f32 := addf (X c) (sum1 X d (prv d c))
def sum3 (d : Fin 2) (c : Dev nD) : Vec F S1024x1024 .f32 := addf (sum2 X d c) (sum2 X d (prz d c))
def sum4 (d : Fin 2) (c : Dev nD) : Vec F S1024x1024 .f32 := addf (sum2 X d c) (sum3 X d (prz d c))
def sum5 (d : Fin 2) (c : Dev nD) : Vec F S1024x1024 .f32 := addf (sum2 X d c) (sum4 X d (prz d c))
def part (d : Fin 2) : Fin 6 → Dev nD → Vec F S1024x1024 .f32
  | 0 => sum0 X d | 1 => sum1 X d | 2 => sum2 X d | 3 => sum3 X d | 4 => sum4 X d | 5 => sum5 X d

/-- What transfer `k` reads from. -/
def sent (k : Fin 18) : Dev nD → Vec F S1024x1024 .f32 :=
  if k.val = 0 ∨ k.val = 2 then X else part X (ent (lift18 k)).d (stageOf (lift18 k))

/-- A rectangle of an array. -/
def cut {s : Shape} {e : EltTy} (r : Rect s) (f : Vec F s e) : Vec F r.shape e := fun j => f (r.emb j)

/-- The complete sums on device `c`: each half has its own. -/
def both (c : Dev nD) : Vec F S1024x1024 .f32 := fun i => if (i 1).val < 512 then sum5 X 0 c i else sum5 X 1 c i
/-- The 64 rows device `c` normalises. -/
def rowsOf (c : Dev nD) : Vec F S64x1024 .f32 :=
  k0_pay20 (cut (rwR (qd c + 1) (gd c + 1)) (both X c)) (cut (rwR (qd c + 1) (gd c + 1)) (R c)) (G c)

/-- The device that normalises row `r`, -/
def owner (r : ℕ) : Dev nD := mv ⟨(r / 256 + 3) % 4, Nat.mod_lt _ (by decide)⟩ ⟨(r % 256 / 64 + 3) % 4, Nat.mod_lt _ (by decide)⟩ (0 : Fin 16)
/-- and the place of an element among that device's rows. -/
def within (i : S1024x1024.Idx) : S64x1024.Idx := fun a => ⟨if a.val = 0 then (i 0).val % 64 else (i 1).val, by
  have h0 := (i 0).isLt; have h1 := (i 1).isLt
  fin_cases a
  · exact Nat.mod_lt _ (by decide)
  · exact h1⟩
/-- The result, the same on every device. -/
def total : Vec F S1024x1024 .f32 := fun i => rowsOf X R G (owner (i 0).val) (within i)

/-! ## What each thing held is -/

abbrev oLoc (c : Dev nD) : Loc nD τ sig := oM.view.loc (c : Thread nD τ)
abbrev xLoc (c : Dev nD) : Loc nD τ sig := xM.view.loc (c : Thread nD τ)

def slotPts {s : Shape} (M : Memref sig .tc .vmem s .f32) (t : Dev nD) : sProp 𝕄 :=
  iprop(∃ f, M.view.loc (t : Thread nD τ) ↦[M.view.set]{fullShare} f)
def landPts {s : Shape} (M : Memref sig .tc .vmem s .f32) (t : Dev nD) (v : Vec F s .f32) : sProp 𝕄 :=
  iprop(∃ f, ⌜M.view.read (Elt F) f = v⌝ ∗ (M.view.loc (t : Thread nD τ) ↦[M.view.set]{fullShare} f))

def slotH (k : Fin 18) (t : Dev nD) : sProp 𝕄 :=
  if h : k.val < 4 then slotPts (aS ⟨k.val, h⟩) t
  else if h' : k.val < 12 then slotPts (bS ⟨k.val - 4, by omega⟩) t
  else slotPts (cS ⟨k.val - 12, by omega⟩) t
def landH (k : Fin 18) (t : Dev nD) : sProp 𝕄 :=
  if h : k.val < 4 then landPts (aS ⟨k.val, h⟩) t (cut (quR (ent (lift18 k)).d (qd t + rja (lift18 k))) (sent X k (src (lift18 k) t)))
  else if h' : k.val < 12 then landPts (bS ⟨k.val - 4, by omega⟩) t
    (cut (chR (ent (lift18 k)).d (qd t + rja (lift18 k)) (gd t + rjb (lift18 k))) (sent X k (src (lift18 k) t)))
  else landPts (cS ⟨k.val - 12, by omega⟩) t
    (cut (chR (ent (lift18 k)).d (qd t + rja (lift18 k)) (gd t + rjb (lift18 k))) (sent X k (src (lift18 k) t)))

/-- A chunk of device `t`'s result array. -/
def chPts (t : Dev nD) (d : Fin 2) (a b : Fin 4) (q : PosShare TreeShare) (f : Vec F S1024x1024 .f32) : sProp 𝕄 :=
  oLoc t ↦[(chR d a b).set]{q} f

/-- The shares a finished chunk is parted into. -/
def shr : Fin 6 → PosShare TreeShare
  | 0 => fullShare | 1 => fullShare.left | 2 => fullShare.right | 3 => fullShare.left | 4 => fullShare.right.left | 5 => fullShare.right.right
/-- The shares of the operand the two first transfers read. -/
def xShr (d : Fin 2) : PosShare TreeShare := if d = 0 then fullShare.right.left else fullShare.right.right
def xQ (d : Fin 2) : Fin 4 := if d = 0 then 0 else 2

/-- The meaning of what is held, for device `c`. -/
def hold (c : Dev nD) : Hold → sProp 𝕄
  | .any r => iprop(∃ f, chPts (mv r.pq r.pg c) r.d (qd c + r.ja) (gd c + r.jb) fullShare f)
  | .slot dq dg k => slotH k (mv dq dg c)
  | .landed k => landH X k c
  | .acc st d ja jb => chPts c d (qd c + ja) (gd c + jb) fullShare (part X d st c)
  | .out d ja jb s => chPts c d (qd c + ja) (gd c + jb) (shr s) (total X R G)
  | .opnd d => xLoc c ↦[(quR d (qd c + xQ d)).set]{xShr d} X c
  | .credit k => cred (tallyAt (sendCell c k) () (amt k))
  | .sentZ k => semVal (sendCell c k) 0
  | .recvZ k => semVal (recvCell c k) 0
  | .barZ => semVal (barCell c) 0

end Contents

end Cert.Plan

end

end
-- ==== Proof.Sched.lean ====
/-
  The schedule of the counters, what each device owes, and the state of a device before its `i`-th action.
-/
module

public import proofs.«01_k».proof.Proof.Cells

@[expose] public section

noncomputable section

namespace Cert.Plan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists of resources -/

section Many
variable {M : Type} [URA M]

theorem sep_assoc_eq (P Q R : sProp M) : iprop((P ∗ Q) ∗ R) = iprop(P ∗ Q ∗ R) := equiv_iff.mp ⟨Idealize.SL.BI.sep_assoc, Idealize.SL.BI.sep_assoc'⟩
theorem sep_emp_eq (P : sProp M) : iprop(P ∗ emp) = P := equiv_iff.mp Idealize.SL.BI.sep_emp
theorem emp_sep_eq (P : sProp M) : iprop(emp ∗ P) = P := equiv_iff.mp Idealize.SL.BI.emp_sep
theorem sep_comm_eq (P Q : sProp M) : iprop(P ∗ Q) = iprop(Q ∗ P) := equiv_iff.mp ⟨Idealize.SL.BI.sep_comm, Idealize.SL.BI.sep_comm⟩

/-- The separating product of a list. -/
def many {α : Type} (Φ : α → sProp M) : List α → sProp M
  | [] => iprop(emp)
  | a :: l => iprop(Φ a ∗ many Φ l)

variable {α β : Type} (Φ : α → sProp M)
theorem many_cons (a : α) (l : List α) : many Φ (a :: l) = iprop(Φ a ∗ many Φ l) := rfl
theorem many_one (a : α) : many Φ [a] = Φ a := sep_emp_eq _
theorem many_append (l l' : List α) : many Φ (l ++ l') = iprop(many Φ l ∗ many Φ l') := by
  induction l with
  | nil => exact (emp_sep_eq _).symm
  | cons a l ih => rw [List.cons_append, many_cons, ih, many_cons, sep_assoc_eq]
theorem many_map (f : β → α) (l : List β) : many Φ (l.map f) = many (fun b => Φ (f b)) l := by
  induction l with
  | nil => rfl
  | cons a l ih => rw [List.map_cons, many_cons, ih, many_cons]
theorem many_flatMap (f : β → List α) (l : List β) : many Φ (l.flatMap f) = many (fun b => many Φ (f b)) l := by
  induction l with
  | nil => rfl
  | cons a l ih => rw [List.flatMap_cons, many_append, ih, many_cons]
theorem many_perm {l l' : List α} (h : l.Perm l') : many Φ l = many Φ l' := by
  induction h with
  | nil => rfl
  | cons a _ ih => rw [many_cons, many_cons, ih]
  | swap a b l => simp only [many_cons]; rw [← sep_assoc_eq, ← sep_assoc_eq, sep_comm_eq (Φ b)]
  | trans _ _ ih ih' => exact ih.trans ih'
theorem many_congr {Φ Ψ : α → sProp M} {l : List α} (h : ∀ a ∈ l, Φ a = Ψ a) : many Φ l = many Ψ l := by
  induction l with
  | nil => rfl
  | cons a l ih => rw [many_cons, many_cons, h a (List.mem_cons_self ..), ih fun b hb => h b (List.mem_cons_of_mem _ hb)]
theorem many_mono {Φ Ψ : α → sProp M} {l : List α} (h : ∀ a ∈ l, Φ a ⊢ Ψ a) : many Φ l ⊢ many Ψ l := by
  induction l with
  | nil => exact BI.Entails.refl _
  | cons a l ih => exact BI.sep_mono (h a (List.mem_cons_self ..)) (ih fun b hb => h b (List.mem_cons_of_mem _ hb))
theorem many_univ [Fintype α] [DecidableEq α] (l : List α) (h : l.Nodup) (hu : ∀ a, a ∈ l) : bigSep Finset.univ Φ = many Φ l := by
  have e : (Finset.univ : Finset α) = l.toFinset := by ext a; simp [hu a]
  rw [e]; clear e hu
  induction l with
  | nil => rfl
  | cons a l ih =>
    have := List.nodup_cons.mp h
    rw [List.toFinset_cons, bigSep_insert (by simpa using this.1), ih this.2]; rfl
end Many

theorem takeAll_many (Φ : Hold → sProp 𝕄) : ∀ (ns H R : List Hold), takeAll ns H = some R → many Φ H = iprop(many Φ ns ∗ many Φ R)
  | [], H, R, h => by obtain rfl := Option.some.inj h; exact (emp_sep_eq _).symm
  | n :: ns, H, R, h => by
    unfold takeAll at h
    split at h
    · next hm => rw [many_perm Φ (List.perm_cons_erase hm), many_cons, many_cons, takeAll_many Φ ns _ R h, sep_assoc_eq]
    · cases h

/-! ## The schedule -/

section Sched
variable (X R : Dev nD → Vec F S1024x1024 .f32) (G : Dev nD → Vec F S1x1024 .f32)

/-- What neighbour `i`'s signal hands device `t`. -/
def barPay (t : Dev nD) (i : Fin 5) : sProp 𝕄 := many (hold X R G (nbInv i t)) (given i)
/-- What transfer `k` leaves on its receiver, -/
def landPart (k : Fin 48) (t : Dev nD) : sProp 𝕄 :=
  if h : k.val < 18 then landH X ⟨k.val, h⟩ t else chPts t (ent k).d (qd t + rja k) (gd t + rjb k) fullShare (total X R G)
/-- with the rights its sender gives up. -/
def recvPay (k : Fin 48) (t : Dev nD) : sProp 𝕄 :=
  iprop(landPart X R G k t ∗ many (fun r => hold X R G (src k t) (.any r)) (rights k))
/-- What the end of transfer `k` gives its sender back. -/
def sendPay (k : Fin 48) (c : Dev nD) : sProp 𝕄 :=
  if k.val = 0 ∨ k.val = 2 then hold X R G c (.opnd (ent k).d) else if k.val < 18 then iprop(emp)
  else hold X R G c (.out (ent k).d (ent k).ja (ent k).jb (shareOf k))

instance chPts_storable (t : Dev nD) (d : Fin 2) (a b : Fin 4) (q : PosShare TreeShare) (f : Vec F S1024x1024 .f32) :
    BI.Storable (upEmb : UEmb _ 𝕄) (chPts t d a b q f) := by unfold chPts; infer_instance
instance slotPts_storable {s : Shape} (M : Memref sig .tc .vmem s .f32) (t : Dev nD) : BI.Storable (upEmb : UEmb _ 𝕄) (slotPts (F := F) M t) := by
  unfold slotPts; infer_instance
instance landPts_storable {s : Shape} (M : Memref sig .tc .vmem s .f32) (t : Dev nD) (v : Vec F s .f32) :
    BI.Storable (upEmb : UEmb _ 𝕄) (landPts M t v) := by unfold landPts; infer_instance
instance slotH_storable (k : Fin 18) (t : Dev nD) : BI.Storable (upEmb : UEmb _ 𝕄) (slotH (F := F) k t) := by
  unfold slotH; (repeat' split) <;> infer_instance
instance landH_storable (k : Fin 18) (t : Dev nD) : BI.Storable (upEmb : UEmb _ 𝕄) (landH X k t) := by
  unfold landH; (repeat' split) <;> infer_instance

/-- The things a transfer or a signal may carry. -/
def Moves : Hold → Prop
  | .any _ | .slot .. | .acc .. | .out .. | .opnd _ => True
  | _ => False
theorem hold_storable (c : Dev nD) (h : Hold) (hm : Moves h) : BI.Storable (upEmb : UEmb _ 𝕄) (hold X R G c h) := by
  cases h <;> first | exact hm.elim | (unfold hold; infer_instance)
theorem many_storable {α : Type} (Φ : α → sProp 𝕄) : ∀ (l : List α), (∀ a ∈ l, BI.Storable (upEmb : UEmb _ 𝕄) (Φ a)) → BI.Storable (upEmb : UEmb _ 𝕄) (many Φ l)
  | [], _ => by unfold many; infer_instance
  | a :: l, h => by
    have := h a (List.mem_cons_self ..)
    have := many_storable Φ l fun b hb => h b (List.mem_cons_of_mem _ hb)
    unfold many; infer_instance
theorem given_moves (i : Fin 5) : ∀ h ∈ given i, Moves h := by
  have : ∀ i : Fin 5, (given i).all fun h => match h with | .any _ | .slot .. => true | _ => false := by decide
  intro h hh
  have := List.all_eq_true.mp (this i) h hh
  cases h <;> first | trivial | exact absurd this (by decide)
instance barPay_storable (t : Dev nD) (i : Fin 5) : BI.Storable (upEmb : UEmb _ 𝕄) (barPay X R G t i) :=
  many_storable _ _ fun h hh => hold_storable X R G _ h (given_moves i h hh)
instance landPart_storable (k : Fin 48) (t : Dev nD) : BI.Storable (upEmb : UEmb _ 𝕄) (landPart X R G k t) := by
  unfold landPart; split <;> infer_instance
instance rights_storable (k : Fin 48) (t : Dev nD) : BI.Storable (upEmb : UEmb _ 𝕄) (many (fun r => hold X R G (src k t) (.any r)) (rights k)) :=
  many_storable _ _ fun r _ => hold_storable X R G _ (.any r) trivial
instance recvPay_storable (k : Fin 48) (t : Dev nD) : BI.Storable (upEmb : UEmb _ 𝕄) (recvPay X R G k t) := by unfold recvPay; infer_instance
instance sendPay_storable (k : Fin 48) (c : Dev nD) : BI.Storable (upEmb : UEmb _ 𝕄) (sendPay X R G k c) := by
  unfold sendPay; (repeat' split)
  · exact hold_storable X R G c (.opnd _) trivial
  · infer_instance
  · exact hold_storable X R G c (.out ..) trivial

/-- One round: the entry counter has five duties of one unit, a transfer's counter one of the transfer's size. -/
def Rd : Rounds.Schedule (GSem nD τ sig) (Fin 5) 𝕄 where
  duties g r := if r = 0 ∧ g.1.2 = .tc then
    (match g.2 with | .reg s => if s = barS then Finset.univ else ∅ | .dma j => if j.val < 4 then ∅ else {0}) else ∅
  unitless _ := False
  amount g _ _ := match g.2 with
    | .reg _ => 1
    | .dma j => if h : 52 ≤ j.val then amt ⟨j.val - 52, by have : j.val < 100 := j.isLt; omega⟩
      else if h : 4 ≤ j.val then amt ⟨j.val - 4, by omega⟩ else 1
  payload g _ i := match g.2 with
    | .reg _ => barPay X R G g.1.1 i
    | .dma j => if h : 52 ≤ j.val then recvPay X R G ⟨j.val - 52, by have : j.val < 100 := j.isLt; omega⟩ g.1.1
      else if h : 4 ≤ j.val then sendPay X R G ⟨j.val - 4, by omega⟩ g.1.1 else iprop(emp)
  amount_pos g _ _ _ := by
    split
    · exact Nat.one_pos
    · (repeat' split) <;> first | exact amt_pos _ | exact Nat.one_pos

instance Rd_payload_storable (g : GSem nD τ sig) (r : ℕ) (d : Fin 5) : BI.Storable (upEmb : UEmb _ 𝕄) ((Rd X R G).payload g r d) := by
  show BI.Storable upEmb (match g.2 with
    | .reg _ => barPay X R G g.1.1 d
    | .dma j => if h : 52 ≤ j.val then recvPay X R G ⟨j.val - 52, by have : j.val < 100 := j.isLt; omega⟩ g.1.1
      else if h : 4 ≤ j.val then sendPay X R G ⟨j.val - 4, by omega⟩ g.1.1 else iprop(emp))
  (repeat' split) <;> infer_instance

variable (c : Dev nD) (k : Fin 48)

theorem duties_bar : (Rd X R G).duties (barCell c) 0 = Finset.univ := by
  dsimp only [Rd]; rw [if_pos ⟨rfl, rfl⟩]; exact if_pos rfl
theorem duties_send : (Rd X R G).duties (sendCell c k) 0 = {0} := by
  dsimp only [Rd]; rw [if_pos ⟨rfl, rfl⟩]; exact if_neg (by show ¬ 4 + k.val < 4; omega)
theorem duties_recv : (Rd X R G).duties (recvCell c k) 0 = {0} := by
  dsimp only [Rd]; rw [if_pos ⟨rfl, rfl⟩]; exact if_neg (by show ¬ 52 + k.val < 4; omega)
theorem duties_later (g : GSem nD τ sig) : ∀ r, 1 ≤ r → (Rd X R G).duties g r = ∅ :=
  fun r hr => by dsimp only [Rd]; exact if_neg fun h => by omega
theorem amount_bar (i : Fin 5) : (Rd X R G).amount (barCell c) 0 i = 1 := rfl
theorem amount_send (i : Fin 5) : (Rd X R G).amount (sendCell c k) 0 i = amt k := by
  dsimp only [Rd]; rw [dif_neg (by omega), dif_pos (by omega)]
  exact congrArg amt (Fin.ext (by show 4 + k.val - 4 = k.val; omega))
theorem amount_recv (i : Fin 5) : (Rd X R G).amount (recvCell c k) 0 i = amt k := by
  dsimp only [Rd]; rw [dif_pos (by omega)]
  exact congrArg amt (Fin.ext (by show 52 + k.val - 52 = k.val; omega))
theorem payload_bar (i : Fin 5) : (Rd X R G).payload (barCell c) 0 i = barPay X R G c i := rfl
theorem payload_send (i : Fin 5) : (Rd X R G).payload (sendCell c k) 0 i = sendPay X R G k c := by
  dsimp only [Rd]; rw [dif_neg (by omega), dif_pos (by omega)]
  exact congrArg (sendPay X R G · c) (Fin.ext (by show 4 + k.val - 4 = k.val; omega))
theorem payload_recv (i : Fin 5) : (Rd X R G).payload (recvCell c k) 0 i = recvPay X R G k c := by
  dsimp only [Rd]; rw [dif_pos (by omega)]
  exact congrArg (recvPay X R G · c) (Fin.ext (by show 52 + k.val - 52 = k.val; omega))
theorem expect_bar : (Rd X R G).expect (barCell c) 0 = 5 := by
  unfold Schedule.expect Schedule.amountOf
  rw [duties_bar, Finset.sum_congr rfl fun d _ => amount_bar X R G c d]; rfl
theorem expect_send : (Rd X R G).expect (sendCell c k) 0 = amt k := by
  unfold Schedule.expect Schedule.amountOf; rw [duties_send, Finset.sum_singleton, amount_send]
theorem expect_recv : (Rd X R G).expect (recvCell c k) 0 = amt k := by
  unfold Schedule.expect Schedule.amountOf; rw [duties_recv, Finset.sum_singleton, amount_recv]
theorem rest_bar : bigSep ((Rd X R G).duties (barCell c) 0 \ ∅) (fun i => (Rd X R G).payload (barCell c) 0 i) = many (barPay X R G c) (List.finRange 5) := by
  rw [Finset.sdiff_empty, duties_bar, many_univ _ (List.finRange 5) (List.nodup_finRange 5) List.mem_finRange]; rfl
theorem rest_send : bigSep ((Rd X R G).duties (sendCell c k) 0 \ ∅) (fun i => (Rd X R G).payload (sendCell c k) 0 i) = sendPay X R G k c := by
  rw [Finset.sdiff_empty, duties_send, bigSep_singleton, payload_send]
theorem rest_recv : bigSep ((Rd X R G).duties (recvCell c k) 0 \ ∅) (fun i => (Rd X R G).payload (recvCell c k) 0 i) = recvPay X R G k c := by
  rw [Finset.sdiff_empty, duties_recv, bigSep_singleton, payload_recv]
end Sched

/-! ## What is owed, and the levels -/

/-- What device `c` still owes before the listed actions. -/
def due (c : Dev nD) : List Act → CellTallies nD τ sig Unit
  | [] => 0
  | .sig i :: l => due c l + tallyAt (barCell (nb i c)) () 1
  | .send k :: l => due c l + tallyAt (recvCell (tgt k c) k) () (amt k)
  | _ :: l => due c l

theorem due_pos {c : Dev nD} {g : GSem nD τ sig} {u : Unit} : ∀ {l : List Act}, 0 < due c l g u →
    (∃ i, .sig i ∈ l ∧ g = barCell (nb i c)) ∨ (∃ k, .send k ∈ l ∧ g = recvCell (tgt k c) k)
  | [], h => absurd h (Nat.lt_irrefl 0)
  | a :: l, h => by
    have ih (h : 0 < due c l g u) : (∃ i, Act.sig i ∈ a :: l ∧ g = barCell (nb i c)) ∨ (∃ k, Act.send k ∈ a :: l ∧ g = recvCell (tgt k c) k) :=
      (due_pos h).imp (fun ⟨i, h, e⟩ => ⟨i, List.mem_cons_of_mem _ h, e⟩) (fun ⟨k, h, e⟩ => ⟨k, List.mem_cons_of_mem _ h, e⟩)
    have add (O : CellTallies nD τ sig Unit) (g' : GSem nD τ sig) (n : ℕ) (h : 0 < (O + tallyAt g' () n) g u) : 0 < O g u ∨ g = g' := by
      rw [Pi.add_apply, Finsupp.add_apply, tallyAt_apply] at h
      by_cases e : g = g' ∧ u = ()
      · exact .inr e.1
      · rw [if_neg e] at h; exact .inl h
    cases a with
    | sig i => exact (add _ _ _ h).elim ih fun e => .inl ⟨i, List.mem_cons_self .., e⟩
    | send k => exact (add _ _ _ h).elim ih fun e => .inr ⟨k, List.mem_cons_self .., e⟩
    | bar => exact ih h
    | recv k => exact ih h
    | acc k => exact ih h
    | norm => exact ih h
    | swait k => exact ih h

def L (g : GSem nD τ sig) : Finset Unit := if g.1.2 = .tc then {()} else ∅
/-- The entry counters at 1, the receive counters above them in the order of the transfers, all others at 0. -/
def lv (g : GSem nD τ sig) (_ : Unit) : ℕ := match g.2 with
  | .reg _ => 1
  | .dma j => if h : 52 ≤ j.val then 2 + rank ⟨j.val - 52, by have : j.val < 100 := j.isLt; omega⟩ else 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (k : Fin 48) : lv (recvCell c k) () = 2 + rank k := by
  dsimp only [lv]; rw [dif_pos (by omega)]
  exact congrArg (2 + rank ·) (Fin.ext (by show 52 + k.val - 52 = k.val; omega))

/-- A counter below everything owed may be waited for. -/
theorem may_wait (c : Dev nD) (sm : SemLoc sig) (l : List Act) (n : ℕ) (hn : lv ((c : Thread nD τ), sm) () ≤ n)
    (hs : ∀ i, .sig i ∈ l → n < 1) (ht : ∀ k, .send k ∈ l → n < 2 + rank k) :
    (levAts L lv : sProp 𝕄) ⊢ MayWait (c : Thread nD τ) sm () (due c l) :=
  MayOwe.of_cut (L := L) (lev := lv) n (fun p hp => by rw [Finset.mem_singleton.mp hp, L_tc]; exact Finset.mem_singleton_self _)
    (fun g u hg => by
      rcases due_pos hg with ⟨i, _, rfl⟩ | ⟨k, _, rfl⟩ <;> (rw [L_tc]; exact Finset.mem_singleton_self _))
    (fun p hp => by rw [Finset.mem_singleton.mp hp]; exact hn)
    (fun g u hg => by
      rcases due_pos hg with ⟨i, h, rfl⟩ | ⟨k, h, rfl⟩
      · exact hs i h
      · rw [show lv (recvCell (tgt k c) k) u = _ from lv_recv _ k]; exact ht k h)

/-! ## The state of a device -/

section State
variable (X R : Dev nD → Vec F S1024x1024 .f32) (G : Dev nD → Vec F S1x1024 .f32)
variable (K : Dev nD × Fin 97 → ℕ)

/-- What every device knows: the counters' invariants, that they opened, and the levels. -/
def recs : sProp 𝕄 :=
  iprop((bigSep Finset.univ fun ck : Dev nD × Fin 97 => cellInv ER (Rd X R G) (K ck) (kcell ck))
    ∗ (bigSep Finset.univ fun ck : Dev nD × Fin 97 => reached ER (kcell ck) 0) ∗ levAts L lv)
instance recs_persistent : BI.Persistent (recs X R G K) := by unfold recs; infer_instance

theorem inv_bar (c : Dev nD) : recs X R G K ⊢ cellInv ER (Rd X R G) (K (c, iBar)) (barCell c) := by
  unfold recs
  iintro ⟨HI, -, -⟩
  iapply (show _ ⊢ _ from bigSep_elim (Finset.mem_univ (c, iBar))) $$ HI
theorem inv_send (c : Dev nD) (k : Fin 48) : recs X R G K ⊢ cellInv ER (Rd X R G) (K (c, iSend k)) (sendCell c k) := by
  have e : kcell (c, iSend k) = sendCell c k := congrArg (Prod.mk _) (csem_send k)
  unfold recs; rw [← e]
  iintro ⟨HI, -, -⟩
  iapply (show _ ⊢ _ from bigSep_elim (Finset.mem_univ (c, iSend k))) $$ HI
theorem inv_recv (c : Dev nD) (k : Fin 48) : recs X R G K ⊢ cellInv ER (Rd X R G) (K (c, iRecv k)) (recvCell c k) := by
  have e : kcell (c, iRecv k) = recvCell c k := congrArg (Prod.mk _) (csem_recv k)
  unfold recs; rw [← e]
  iintro ⟨HI, -, -⟩
  iapply (show _ ⊢ _ from bigSep_elim (Finset.mem_univ (c, iRecv k))) $$ HI
theorem opened_bar (c : Dev nD) : recs X R G K ⊢ reached ER (barCell c) 0 := by
  unfold recs
  iintro ⟨-, HI, -⟩
  iapply (show _ ⊢ _ from bigSep_elim (Finset.mem_univ (c, iBar))) $$ HI
theorem opened_send (c : Dev nD) (k : Fin 48) : recs X R G K ⊢ reached ER (sendCell c k) 0 := by
  have e : kcell (c, iSend k) = sendCell c k := congrArg (Prod.mk _) (csem_send k)
  unfold recs; rw [← e]
  iintro ⟨-, HI, -⟩
  iapply (show _ ⊢ _ from bigSep_elim (Finset.mem_univ (c, iSend k))) $$ HI
theorem opened_recv (c : Dev nD) (k : Fin 48) : recs X R G K ⊢ reached ER (recvCell c k) 0 := by
  have e : kcell (c, iRecv k) = recvCell c k := congrArg (Prod.mk _) (csem_recv k)
  unfold recs; rw [← e]
  iintro ⟨-, HI, -⟩
  iapply (show _ ⊢ _ from bigSep_elim (Finset.mem_univ (c, iRecv k))) $$ HI
theorem recs_levels : recs X R G K ⊢ levAts L lv := by
  unfold recs
  iintro ⟨-, -, HI⟩
  iexact HI

/-- The tokens, credits and positions an action uses. -/
def ghost (c : Dev nD) : Act → sProp 𝕄
  | .sig i => dutyTok ER (barCell (nb i c)) 0 i
  | .bar => iprop(cred (tallyAt (barCell c) () 5) ∗ atPos ER (barCell c) 0 ∅ 0)
  | .send k => iprop(dutyTok ER (sendCell c k) 0 0 ∗ dutyTok ER (recvCell (tgt k c) k) 0 0)
  | .recv k => iprop(cred (tallyAt (recvCell c k) () (amt k)) ∗ atPos ER (recvCell c k) 0 ∅ 0)
  | .swait k => atPos ER (sendCell c k) 0 ∅ 0
  | .acc _ => iprop(emp)
  | .norm => iprop(emp)

/-- What stays with the device: its operand but for the lent shares, and the other two operands. -/
def static (c : Dev nD) : sProp 𝕄 :=
  iprop((xLoc c ↦{fullShare.left} X c)
    ∗ (xLoc c ↦[Finset.univ \ (quR 0 (qd c + xQ 0)).set]{xShr 0} X c)
    ∗ (xLoc c ↦[Finset.univ \ (quR 1 (qd c + xQ 1)).set]{xShr 1} X c)
    ∗ (rM.view.loc (c : Thread nD τ) ↦{fullShare} R c) ∗ (gM.view.loc (c : Thread nD τ) ↦{fullShare} G c))

def owing (c : Dev nD) (l : List Act) : sProp 𝕄 := iprop(∃ W, owes (c : Thread nD τ) (due c l) W)

/-- The state before the listed actions. -/
def St (c : Dev nD) (l : List Act) : sProp 𝕄 :=
  iprop(recs X R G K ∗ many (ghost c) l ∗ owing c l ∗ static X R G c ∗ ∃ H, ⌜go l H = true⌝ ∗ many (hold X R G c) H)

/-- The state but for what the next action uses. -/
def Rest (c : Dev nD) (a : Act) (l : List Act) : sProp 𝕄 :=
  iprop(many (ghost c) l ∗ ∃ H, ⌜go l (gain a ++ H) = true⌝ ∗ many (hold X R G c) H)

theorem St_open (c : Dev nD) (a : Act) (l : List Act) :
    St X R G K c (a :: l) ⊢ iprop(⌜mayWait a l = true⌝ ∗ recs X R G K ∗ ghost c a ∗ owing c (a :: l) ∗ static X R G c
      ∗ many (hold X R G c) (need a) ∗ Rest X R G c a l) := by
  unfold St Rest
  rw [many_cons]
  iintro ⟨#HK, ⟨Hg, Hgs⟩, Ho, Hs, ⟨%H, %hgo, HH⟩⟩
  have hm : mayWait a l = true := by unfold go at hgo; exact (Bool.and_eq_true _ _ ▸ hgo).1
  have h2 : (match takeAll (need a) H with | none => false | some R => go l (gain a ++ R)) = true := by
    unfold go at hgo; exact (Bool.and_eq_true _ _ ▸ hgo).2
  cases e : takeAll (need a) H with
  | none => rw [e] at h2; cases h2
  | some R' =>
    rw [e] at h2
    ihave HH' := (Entails.of_eq (takeAll_many (hold X R G c) _ _ _ e)) $$ HH
    icases HH' with ⟨Hn, HR⟩
    isplitr; · ipureintro; exact hm
    isplitr; · iexact HK
    isplitl [Hg]; · iexact Hg
    isplitl [Ho]; · iexact Ho
    isplitl [Hs]; · iexact Hs
    isplitl [Hn]; · iexact Hn
    isplitl [Hgs]; · iexact Hgs
    iexists R'
    isplitr; · ipureintro; exact h2
    iexact HR

theorem St_close (c : Dev nD) (a : Act) (l : List Act) :
    iprop(recs X R G K ∗ owing c l ∗ static X R G c ∗ many (hold X R G c) (gain a) ∗ Rest X R G c a l) ⊢ St X R G K c l := by
  unfold St Rest
  iintro ⟨#HK, Ho, Hs, Hg, Hgs, ⟨%H, %hgo, HH⟩⟩
  isplitr; · iexact HK
  isplitl [Hgs]; · iexact Hgs
  isplitl [Ho]; · iexact Ho
  isplitl [Hs]; · iexact Hs
  iexists (gain a ++ H)
  isplitr; · ipureintro; exact hgo
  rw [many_append]
  isplitl [Hg] <;> iassumption

end State

end Cert.Plan

end

end
-- ==== Proof.Steps.lean ====
/-
  The rules of single actions: signalling, waiting and sending. Each takes the state before an action to the state
  after it, for any rest of the program.
-/
module

public import proofs.«01_k».proof.Proof.Sched

@[expose] public section

noncomputable section

namespace Cert.Plan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of device `c`'s program. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Rectangles of the result array -/

theorem slice_set_o (r : Rect S1024x1024) (h : ∀ a, r.stride a = 1) : (oM.slice r h).view.set = r.set := by
  rw [← Rect.map_emb_univ]; rfl
theorem slice_set_x (r : Rect S1024x1024) (h : ∀ a, r.stride a = 1) : (xM.slice r h).view.set = r.set := by
  rw [← Rect.map_emb_univ]; rfl

theorem mem_qu (d : Fin 2) (a : Fin 4) (i : S1024x1024.Idx) :
    i ∈ (quR d a).set ↔ (256 * a.val ≤ (i 0).val ∧ (i 0).val < 256 * a.val + 256) ∧ 512 * d.val ≤ (i 1).val ∧ (i 1).val < 512 * d.val + 512 := by
  rw [Rect.mem_set_unit]; exact Fin.forall_fin_two
theorem mem_ch (d : Fin 2) (a b : Fin 4) (i : S1024x1024.Idx) :
    i ∈ (chR d a b).set ↔ (256 * a.val + 64 * b.val ≤ (i 0).val ∧ (i 0).val < 256 * a.val + 64 * b.val + 64)
      ∧ 512 * d.val ≤ (i 1).val ∧ (i 1).val < 512 * d.val + 512 := by
  rw [Rect.mem_set_unit]; exact Fin.forall_fin_two
theorem mem_rw (a b : Fin 4) (i : S1024x1024.Idx) :
    i ∈ (rwR a b).set ↔ (256 * a.val + 64 * b.val ≤ (i 0).val ∧ (i 0).val < 256 * a.val + 64 * b.val + 64)
      ∧ 0 ≤ (i 1).val ∧ (i 1).val < 0 + 1024 := by
  rw [Rect.mem_set_unit]; exact Fin.forall_fin_two

theorem ch_disjoint (d d' : Fin 2) (a b a' b' : Fin 4) (h : (d, a, b) ≠ (d', a', b')) : Disjoint (chR d a b).set (chR d' a' b').set := by
  refine Finset.disjoint_left.mpr fun i hi hj => h ?_
  rw [mem_ch] at hi hj
  have := d.isLt; have := d'.isLt; have := a.isLt; have := a'.isLt; have := b.isLt; have := b'.isLt
  rw [show d = d' from Fin.ext (by omega), show a = a' from Fin.ext (by omega), show b = b' from Fin.ext (by omega)]
theorem qu_union (d : Fin 2) (a : Fin 4) : (quR d a).set = Finset.univ.biUnion fun b => (chR d a b).set := by
  ext i
  simp only [Finset.mem_biUnion, Finset.mem_univ, true_and, mem_ch, mem_qu]
  constructor
  · intro h
    exact ⟨⟨((i 0).val - 256 * a.val) / 64, by omega⟩, by dsimp only; omega⟩
  · rintro ⟨b, h⟩
    have := b.isLt; omega
theorem rw_union (a b : Fin 4) : (rwR a b).set = Finset.univ.biUnion fun d => (chR d a b).set := by
  ext i
  simp only [Finset.mem_biUnion, Finset.mem_univ, true_and, mem_ch, mem_rw]
  constructor
  · intro h
    exact ⟨⟨(i 1).val / 512, by omega⟩, by dsimp only; omega⟩
  · rintro ⟨b, h⟩
    have := b.isLt; omega
theorem four_nodup : four.Nodup := by decide
theorem four_all : ∀ b : Fin 4, b ∈ four := by decide

/-- A quarter is its four chunks, -/
theorem quarter_eq (t : Dev nD) (d : Fin 2) (a : Fin 4) (q : PosShare TreeShare) (f : Vec F S1024x1024 .f32) :
    (oLoc t ↦[(quR d a).set]{q} f : sProp 𝕄) = many (fun b => chPts t d a b q f) four := by
  rw [qu_union, pointsTo_biUnion _ _ fun b _ b' _ h => ch_disjoint d d a b a b' fun e => h (by simpa using e), many_univ _ four four_nodup four_all]; rfl
/-- also of chunks at several contents. -/
theorem quarter_any (f₀ : Vec F S1024x1024 .f32) (t : Dev nD) (d : Fin 2) (a : Fin 4) :
    many (fun b => (iprop(∃ f, chPts t d a b fullShare f) : sProp 𝕄)) four ⊢ iprop(∃ f, oLoc t ↦[(quR d a).set]{fullShare} f) := by
  rw [qu_union, ← many_univ _ four four_nodup four_all]
  haveI : Nonempty (Vec F S1024x1024 .f32) := ⟨f₀⟩
  refine (BI.bigSep_exists_pi Finset.univ _).trans ?_
  iintro ⟨%fs, H⟩
  unfold chPts
  ihave H' := (pointsTo_biUnion_join (Finset.univ : Finset (Fin 4)) (q := fullShare) (ℓ := oLoc t) (fun b => (chR d a b).set) fs (fs 0)
    fun b _ b' _ h => ch_disjoint d d a b a b' fun e => h (by simpa using e)) $$ H
  icases H' with ⟨%g, -, H⟩
  iexists g; iexact H

/-- Writing what another array holds on a rectangle makes the rectangle hold it. -/
theorem write_cut (r : Rect S1024x1024) (h) (t : Dev nD) (q : PosShare TreeShare) (f g : Vec F S1024x1024 .f32) :
    (oLoc t ↦[r.set]{q} ((oM.slice r h).view.write (Elt F) f (cut r g) Finset.univ) : sProp 𝕄) = (oLoc t ↦[r.set]{q} g) := by
  refine pointsTo_congr fun i hi => ?_
  rw [← Rect.map_emb_univ] at hi
  obtain ⟨x, -, rfl⟩ := Finset.mem_map.mp hi
  exact View.write_emb_of_mem (v := (oM.slice r h).view) f (cut r g) (Finset.mem_univ x)

theorem slotH_a (k : Fin 18) (h : k.val < 4) (t : Dev nD) : slotH (F := F) k t = slotPts (aS ⟨k.val, h⟩) t := dif_pos h

/-! ## Names as the two ends of a transfer see them -/

theorem sub_shift (x a q : Fin 4) : x + q + (a - q) = x + a := by revert x a q; decide
theorem neg_shift (x a q : Fin 4) : x + -q + a = x + (a - q) := by revert x a q; decide
theorem neg_add (a q : Fin 4) : -q + a = a - q := by revert a q; decide

theorem q_tgt (k : Fin 48) (c : Dev nD) : qd (tgt k c) + rja k = qd c + (ent k).ja := by
  unfold tgt rja; rw [qd_mv]; exact sub_shift _ _ _
theorem g_tgt (k : Fin 48) (c : Dev nD) : gd (tgt k c) + rjb k = gd c + (ent k).jb := by
  unfold tgt rjb; rw [gd_mv]; exact sub_shift _ _ _

section
variable (X R : Dev nD → Vec F S1024x1024 .f32) (G : Dev nD → Vec F S1x1024 .f32)
variable (K : Dev nD × Fin 97 → ℕ)

theorem hold_any (c : Dev nD) (r : Right) : hold X R G c (.any r) = iprop(∃ f, chPts (mv r.pq r.pg c) r.d (qd c + r.ja) (gd c + r.jb) fullShare f) := rfl
theorem hold_slot (c : Dev nD) (dq dg : Fin 4) (k : Fin 18) : hold X R G c (.slot dq dg k) = slotH k (mv dq dg c) := rfl
theorem hold_landed (c : Dev nD) (k : Fin 18) : hold X R G c (.landed k) = landH X k c := rfl
theorem hold_acc (c : Dev nD) (st : Fin 6) (d : Fin 2) (ja jb : Fin 4) :
    hold X R G c (.acc st d ja jb) = chPts c d (qd c + ja) (gd c + jb) fullShare (part X d st c) := rfl
theorem hold_out (c : Dev nD) (d : Fin 2) (ja jb : Fin 4) (s : Fin 6) :
    hold X R G c (.out d ja jb s) = chPts c d (qd c + ja) (gd c + jb) (shr s) (total X R G) := rfl
theorem hold_opnd (c : Dev nD) (d : Fin 2) : hold X R G c (.opnd d) = (xLoc c ↦[(quR d (qd c + xQ d)).set]{xShr d} X c) := rfl
theorem hold_credit (c : Dev nD) (k : Fin 48) : hold X R G c (.credit k) = cred (tallyAt (sendCell c k) () (amt k)) := rfl
theorem hold_sentZ (c : Dev nD) (k : Fin 48) : hold X R G c (.sentZ k) = semVal (sendCell c k) 0 := rfl
theorem hold_recvZ (c : Dev nD) (k : Fin 48) : hold X R G c (.recvZ k) = semVal (recvCell c k) 0 := rfl
theorem hold_barZ (c : Dev nD) : hold X R G c .barZ = semVal (barCell c) 0 := rfl

/-- What is held of others, named by the device that receives it. -/
theorem hold_shift (a b : Fin 4) (c : Dev nD) (h : Hold) (hm : (match h with | .any _ | .slot .. => true | _ => false) = true) :
    hold X R G (mv (-a) (-b) c) h = hold X R G c (h.shift a b) := by
  cases h with
  | any r =>
    unfold hold Hold.shift Right.shift
    simp only [mv_mv, qd_mv, gd_mv, neg_shift, neg_add]
  | slot dq dg k =>
    unfold hold Hold.shift
    simp only [mv_mv, neg_add]
  | _ => cases hm

variable {X R G K}

theorem hold_own (c : Dev nD) (d : Fin 2) (ja jb : Fin 4) :
    hold X R G c (.any ⟨0, 0, d, ja, jb⟩) = iprop(∃ f, chPts c d (qd c + ja) (gd c + jb) fullShare f) := by
  rw [hold_any]; dsimp only; rw [mv_zero]

theorem four_shift : ∀ g : Fin 4, (four.map (g + ·)).Perm four := by decide
/-- The four chunks of a quarter, counted from any place. -/
theorem many_shift (Φ : Fin 4 → sProp 𝕄) (g : Fin 4) : many (fun b => Φ (g + b)) four = many Φ four := by
  rw [← many_map Φ (g + ·), many_perm Φ (four_shift g)]
theorem quarter_acc (c : Dev nD) (st : Fin 6) (d : Fin 2) (ja : Fin 4) :
    many (fun b => hold X R G c (.acc st d ja b)) four = (oLoc c ↦[(quR d (qd c + ja)).set]{fullShare} part X d st c) := by
  rw [quarter_eq]; exact many_shift (fun b => chPts c d (qd c + ja) b fullShare (part X d st c)) (gd c)
theorem quarter_own (c : Dev nD) (d : Fin 2) (ja : Fin 4) :
    many (fun b => hold X R G c (.any ⟨0, 0, d, ja, b⟩)) four = many (fun b => iprop(∃ f, chPts c d (qd c + ja) b fullShare f)) four := by
  rw [many_congr fun b _ => hold_own c d ja b]; exact many_shift (fun b => iprop(∃ f, chPts c d (qd c + ja) b fullShare f)) (gd c)
theorem quarter_rights (c : Dev nD) (d : Fin 2) (ja : Fin 4) (f : Vec F S1024x1024 .f32) :
    (oLoc c ↦[(quR d (qd c + ja)).set]{fullShare} f) ⊢ many (fun b => hold X R G c (.any ⟨0, 0, d, ja, b⟩)) four := by
  rw [quarter_eq, quarter_own]
  exact many_mono fun b _ => (by iintro H; iexists f; iexact H)

/-! ## Signals and waits -/

variable {α : Type} {Q : α → sProp (MT nD τ sig Unit (Elt F) ℕ UU ℕ)} (c : Dev nD) {l : List Act}

theorem step_sig (i : Fin 5) {n : Dev nD} {s : Sem sig} {z : ℤ} (hn : n = nb i c) (hs : s = barS) (hz : z = ((1 : ℕ) : ℤ))
    {k : PUnit.{1} → Prog (TpuEff nD τ sig (Elt F) Λ₀ .tc) α} (h : St X R G K c l ⊢ run c (k ⟨⟩) Q) :
    St X R G K c (.sig i :: l) ⊢ run c (.op (.semSignal (n : Thread nD τ) s z) k) Q := by
  subst hn hs hz
  refine (St_open X R G K c _ l).trans ?_
  have hd : i ∈ (Rd X R G).duties (barCell (nb i c)) 0 := by rw [duties_bar]; exact Finset.mem_univ _
  unfold ghost owing
  iintro ⟨-, #HK, Hg, ⟨%W, Ho⟩, Hs, Hn, Hr⟩
  iapply (Rounds.wp_signal 𝒱₀ ER (Rd X R G) (c : Thread nD τ) none (dst := (nb i c : Thread nD τ)) (κ := K (nb i c, iBar)) (d := i)
    hd (amount_bar X R G (nb i c) i) () (due c l) rfl (hr := by routes)) $$ [Ho Hg Hn]
  · isplitr; · iapply (inv_bar X R G K (nb i c)); iexact HK
    isplitl [Ho]; · iexact Ho
    isplitl [Hg]; · iexact Hg
    isplitl [Hn]
    · rw [payload_bar]; unfold barPay; rw [nbInv_nb]; iexact Hn
    iapply (opened_bar X R G K (nb i c)); iexact HK
  iintro Ho
  iapply h
  iapply (St_close X R G K c (.sig i) l)
  isplitr; · iexact HK
  isplitl [Ho]; · unfold owing; iexists W; iexact Ho
  isplitl [Hs]; · iexact Hs
  isplitr; · iempintro
  iexact Hr

theorem given_moves' (i : Fin 5) : ∀ h ∈ given i, (match h with | .any _ | .slot .. => true | _ => false) = true := by
  have : ∀ i : Fin 5, (given i).all fun h => match h with | .any _ | .slot .. => true | _ => false := by decide
  exact fun h hh => List.all_eq_true.mp (this i) h hh

theorem wait_bar (hm : mayWait .bar l = true) : (levAts L lv : sProp 𝕄) ⊢ MayWait (c : Thread nD τ) (.reg barS) () (due c l) := by
  refine may_wait c (.reg barS) l 1 ?_ ?_ ?_
  · exact le_of_eq (lv_bar c)
  · intro i hi
    exact absurd (List.all_eq_true.mp hm _ hi) Bool.false_ne_true
  · exact fun k _ => Nat.lt_of_lt_of_le (by decide : 1 < 2) (Nat.le_add_right 2 _)
theorem wait_recv (k : Fin 48) (hm : mayWait (.recv k) l = true) : (levAts L lv : sProp 𝕄) ⊢ MayWait (c : Thread nD τ) (.dma (recvS k)) () (due c l) := by
  refine may_wait c (.dma (recvS k)) l (2 + rank k) ?_ ?_ ?_
  · exact le_of_eq (lv_recv c k)
  · intro i hi
    exact absurd (List.all_eq_true.mp hm _ hi) Bool.false_ne_true
  · intro j hj
    exact Nat.add_lt_add_left (of_decide_eq_true (List.all_eq_true.mp hm _ hj)) 2
theorem wait_send (k : Fin 48) (hm : mayWait (.swait k) l = true) : (levAts L lv : sProp 𝕄) ⊢ MayWait (c : Thread nD τ) (.dma (sendS k)) () (due c l) := by
  refine may_wait c (.dma (sendS k)) l 0 ?_ ?_ ?_
  · dsimp only [lv]; rw [dif_neg (by omega)]
  · intro i hi
    exact absurd (List.all_eq_true.mp hm _ hi) Bool.false_ne_true
  · intro i hi
    exact absurd (List.all_eq_true.mp hm _ hi) Bool.false_ne_true

theorem step_bar {s : Sem sig} {z : ℤ} (hs : s = barS) (hz : z = ((5 : ℕ) : ℤ))
    {k : PUnit.{1} → Prog (TpuEff nD τ sig (Elt F) Λ₀ .tc) α} (h : St X R G K c l ⊢ run c (k ⟨⟩) Q) :
    St X R G K c (.bar :: l) ⊢ run c (.op (.semWait s z) k) Q := by
  subst hs hz
  refine (St_open X R G K c _ l).trans ?_
  unfold ghost owing
  iintro ⟨%hm, #HK, ⟨Hc, Hat⟩, ⟨%W, Ho⟩, Hs, Hn, Hr⟩
  iapply (Rounds.wp_wait_rest_token 𝒱₀ ER (Rd X R G) (c : Thread nD τ) none (κ := K (c, iBar))
      (wpE_semWait_eq 𝒱₀ (c : Thread nD τ) none Set.univ) (Set.mem_univ _) () (O := due c l) (W := W) (R := 0) (m := 0) (T := ∅)
      (by rw [expect_bar])) $$ [Hc Ho Hat]
  · isplitr; · iapply (inv_bar X R G K c); iexact HK
    isplitl [Hc]; · iexact Hc
    isplitl [Ho]; · iexact Ho
    isplitr
    · ihave HL := (@recs_levels F _ X R G K) $$ HK
      iapply (show (levAts L lv : sProp 𝕄) ⊢ _ from wait_bar (F := F) c hm) $$ HL
    iexact Hat
  iintro ⟨Ho, Hat, -, Hp⟩
  ihave Hp := (Entails.of_eq (rest_bar X R G c)) $$ Hp
  imod (Rounds.cell_close ER (Rd X R G) (Set.mem_univ (K (c, iBar))) (fun h => h) (R := 0 + 1) (duties_later X R G (barCell c))) $$ [Hat] with Hz
  · isplitr; · iapply (inv_bar X R G K c); iexact HK
    iexact Hat
  iapply h
  iapply (St_close X R G K c .bar l)
  isplitr; · iexact HK
  isplitl [Ho]; · unfold owing; iexists _; iexact Ho
  isplitl [Hs]; · iexact Hs
  isplitr [Hr]
  · dsimp only [gain]
    rw [many_cons, many_flatMap, hold_barZ]
    isplitl [Hz]; · iexact Hz
    iapply (Entails.of_eq (many_congr (Φ := barPay X R G c) fun i _ => (by
      unfold barPay nbInv
      rw [many_map]
      exact many_congr fun h hh => hold_shift X R G _ _ c h (given_moves' i h hh)))) $$ Hp
  iexact Hr

/-- Waiting for the end of one's own transfer. -/
theorem step_swait (k : Fin 48) {s : DmaSem sig} {sp sp' : Space} {s₁ s₂ : Shape} {e₁ e₂ : EltTy} {srcM : Memref sig .tc sp s₁ e₁} {κ' : Kind}
    {dstM : Memref sig κ' sp' s₂ e₂} {h₁ : srcM.view.WordExact} {h₂ : dstM.view.WordExact}
    (hs : s = sendS k) (ha : dstM.view.dmaCredit = amt k)
    {kk : PUnit.{1} → Prog (TpuEff nD τ sig (Elt F) Λ₀ .tc) α} (h : St X R G K c l ⊢ run c (kk ⟨⟩) Q) :
    St X R G K c (.swait k :: l) ⊢ run c (.op (.waitDma2 s srcM dstM h₁ h₂) kk) Q := by
  subst hs
  refine (St_open X R G K c _ l).trans ?_
  unfold ghost owing
  iintro ⟨%hm, #HK, Hat, ⟨%W, Ho⟩, Hs, Hn, Hr⟩
  ihave Hc := (Entails.of_eq (show many (hold X R G c) (need (.swait k)) = hold X R G c (.credit k) from many_one _ _)) $$ Hn
  unfold hold
  iapply (Rounds.wp_wait_rest_token 𝒱₀ ER (Rd X R G) (c : Thread nD τ) none (κ := K (c, iSend k))
      (wpE_waitDma2_eq 𝒱₀ (c : Thread nD τ) none Set.univ) (Set.mem_univ _) () (O := due c l) (W := W) (R := 0) (m := 0) (T := ∅)
      (by rw [expect_send, ha, Nat.zero_add])) $$ [Hc Ho Hat]
  · isplitr; · iapply (inv_send X R G K c k); iexact HK
    isplitl [Hc]; · rw [ha]; iexact Hc
    isplitl [Ho]; · iexact Ho
    isplitr
    · ihave HL := (@recs_levels F _ X R G K) $$ HK
      iapply (show (levAts L lv : sProp 𝕄) ⊢ _ from wait_send (F := F) c k hm) $$ HL
    iexact Hat
  iintro ⟨Ho, Hat, -, Hp⟩
  ihave Hp := (Entails.of_eq (rest_send X R G c k)) $$ Hp
  imod (Rounds.cell_close ER (Rd X R G) (Set.mem_univ (K (c, iSend k))) (fun h => h) (R := 0 + 1) (duties_later X R G (sendCell c k))) $$ [Hat] with Hz
  · isplitr; · iapply (inv_send X R G K c k); iexact HK
    iexact Hat
  iapply h
  iapply (St_close X R G K c (.swait k) l)
  isplitr; · iexact HK
  isplitl [Ho]; · unfold owing; iexists _; iexact Ho
  isplitl [Hs]; · iexact Hs
  isplitr [Hr]
  · dsimp only [gain]
    rw [many_cons, hold_sentZ]
    isplitl [Hz]; · iexact Hz
    unfold sendPay
    split
    · rw [many_one]; iexact Hp
    split
    · iempintro
    rw [many_one]; iexact Hp
  iexact Hr

/-- The shares a finished chunk is parted into make the whole. -/
theorem shares_eq (k : Fin 48) (t : Dev nD) (d : Fin 2) (a b : Fin 4) (f : Vec F S1024x1024 .f32) :
    (chPts t d a b fullShare f : sProp 𝕄) = many (fun s => chPts t d a b (shr s) f) (sharesOf k) := by
  have h2 (q : PosShare TreeShare) : (chPts t d a b q f : sProp 𝕄) = iprop(chPts t d a b q.left f ∗ chPts t d a b q.right f) :=
    equiv_iff.mp ⟨(pointsTo_share (PosShare.mem_left_op_right q)).1, (pointsTo_share (PosShare.mem_left_op_right q)).2⟩
  unfold sharesOf
  split
  · simp only [many, sep_emp_eq]; rw [h2 fullShare, h2 fullShare.right]; rfl
  split
  · simp only [many, sep_emp_eq]; rw [h2 fullShare]; rfl
  rw [many_one]; rfl

/-- Waiting for what a neighbour's transfer brings. -/
theorem step_recv (k : Fin 48) {s : DmaSem sig} {sp sp' : Space} {s₁ s₂ : Shape} {e₁ e₂ : EltTy} {srcM : Memref sig .tc sp s₁ e₁} {κ' : Kind}
    {dstM : Memref sig κ' sp' s₂ e₂} {h₁ : srcM.view.WordExact} {h₂ : dstM.view.WordExact}
    (hs : s = recvS k) (ha : dstM.view.dmaCredit = amt k)
    {kk : PUnit.{1} → Prog (TpuEff nD τ sig (Elt F) Λ₀ .tc) α} (h : St X R G K c l ⊢ run c (kk ⟨⟩) Q) :
    St X R G K c (.recv k :: l) ⊢ run c (.op (.waitDma2 s srcM dstM h₁ h₂) kk) Q := by
  subst hs
  refine (St_open X R G K c _ l).trans ?_
  unfold ghost owing
  iintro ⟨%hm, #HK, ⟨Hc, Hat⟩, ⟨%W, Ho⟩, Hs, Hn, Hr⟩
  iapply (Rounds.wp_wait_rest_token 𝒱₀ ER (Rd X R G) (c : Thread nD τ) none (κ := K (c, iRecv k))
      (wpE_waitDma2_eq 𝒱₀ (c : Thread nD τ) none Set.univ) (Set.mem_univ _) () (O := due c l) (W := W) (R := 0) (m := 0) (T := ∅)
      (by rw [expect_recv, ha, Nat.zero_add])) $$ [Hc Ho Hat]
  · isplitr; · iapply (inv_recv X R G K c k); iexact HK
    isplitl [Hc]; · rw [ha]; iexact Hc
    isplitl [Ho]; · iexact Ho
    isplitr
    · ihave HL := (@recs_levels F _ X R G K) $$ HK
      iapply (show (levAts L lv : sProp 𝕄) ⊢ _ from wait_recv (F := F) c k hm) $$ HL
    iexact Hat
  iintro ⟨Ho, Hat, -, Hp⟩
  ihave Hp := (Entails.of_eq (rest_recv X R G c k)) $$ Hp
  imod (Rounds.cell_close ER (Rd X R G) (Set.mem_univ (K (c, iRecv k))) (fun h => h) (R := 0 + 1) (duties_later X R G (recvCell c k))) $$ [Hat] with Hz
  · isplitr; · iapply (inv_recv X R G K c k); iexact HK
    iexact Hat
  iapply h
  iapply (St_close X R G K c (.recv k) l)
  isplitr; · iexact HK
  isplitl [Ho]; · unfold owing; iexists _; iexact Ho
  isplitl [Hs]; · iexact Hs
  isplitr [Hr]
  · dsimp only [gain]
    unfold recvPay
    rw [many_cons, many_append, many_map, many_congr (Φ := fun r => hold X R G (src k c) (.any r)) fun r _ => hold_shift X R G _ _ c (.any r) rfl, hold_recvZ]
    isplitl [Hz]; · iexact Hz
    icases Hp with ⟨Hp, Hq⟩
    isplitl [Hp]
    · unfold landPart
      split
      · rw [many_one, hold_landed]; iexact Hp
      · rw [many_map]; iapply (Entails.of_eq (shares_eq k c (ent k).d (qd c + rja k) (gd c + rjb k) (total X R G))) $$ Hp
    iexact Hq
  iexact Hr
end

end Cert.Plan

end

end
-- ==== Proof.Sends.lean ====
/-
  The rules of the transfers. Each takes the state before a transfer to the state after it, for any rest of the program.
-/
module

public import proofs.«01_k».proof.Proof.Steps

@[expose] public section

noncomputable section

namespace Cert.Plan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {X R : Dev nD → Vec F S1024x1024 .f32} {G : Dev nD → Vec F S1x1024 .f32}
variable {K : Dev nD × Fin 97 → ℕ}
variable {α : Type} {Q : α → sProp (MT nD τ sig Unit (Elt F) ℕ UU ℕ)} (c : Dev nD) {l : List Act}

/-- A transfer whose end gives its sender the source back. -/
theorem send_keep (k : Fin 48) {s : Shape} {srcM dstM : Memref sig .tc .vmem s .f32} {n : Dev nD} {sS sR : DmaSem sig}
    {hsc : dstM.view.ref.isScScratch = false} {h₁ : srcM.view.WordExact} {h₂ : dstM.view.WordExact}
    {h₃ : DmaTarget.Typed .vmem (.dma sR) (.remote (n : Thread nD τ) dstM (.dma sS) hsc)}
    {q : PosShare TreeShare} {fs : Buf (Elt F) (srcM.view.loc (c : Thread nD τ))} {Fr : sProp 𝕄}
    (hn : n = tgt k c) (hS : sS = sendS k) (hR : sR = recvS k)
    (hN : dstM.view.amount (.dma (recvS k)) = amt k)
    (hneed : many (hold X R G c) (need (.send k)) ⊢ iprop((srcM.view.loc (c : Thread nD τ) ↦[srcM.view.set]{q} fs)
      ∗ (∃ fd, dstM.view.loc (tgt k c : Thread nD τ) ↦[dstM.view.set]{fullShare} fd) ∗ Fr))
    (hp₁ : (srcM.view.loc (c : Thread nD τ) ↦[srcM.view.set]{q} fs) ⊢ sendPay X R G k c)
    (hp₂ : ∀ fd, iprop((dstM.view.loc (tgt k c : Thread nD τ) ↦[dstM.view.set]{fullShare}
      (dstM.view.write (Elt F) fd (srcM.view.read (Elt F) fs) Finset.univ)) ∗ Fr) ⊢ recvPay X R G k (tgt k c))
    {kk : PUnit.{1} → Prog (TpuEff nD τ sig (Elt F) Λ₀ .tc) α} (h : St X R G K c l ⊢ run c (kk ⟨⟩) Q) :
    St X R G K c (.send k :: l)
      ⊢ run c (.op (.enqueueDma srcM (.remote (n : Thread nD τ) dstM (.dma sS) hsc) (.dma sR) h₁ h₂ h₃) kk) Q := by
  subst hn hS hR
  refine (St_open X R G K c _ l).trans ?_
  have hd₁ : (0 : Fin 5) ∈ (Rd X R G).duties (sendCell c k) 0 := by rw [duties_send]; exact Finset.mem_singleton_self _
  have hd₂ : (0 : Fin 5) ∈ (Rd X R G).duties (recvCell (tgt k c) k) 0 := by rw [duties_recv]; exact Finset.mem_singleton_self _
  unfold ghost owing
  iintro ⟨-, #HK, ⟨Ht₁, Ht₂⟩, ⟨%W, Ho⟩, Hs, Hn, Hr⟩
  ihave Hn := hneed $$ Hn
  icases Hn with ⟨Hsrc, ⟨%fd, Hdst⟩, HF⟩
  iapply (Rounds.wp_send_pointsTo_with 𝒱₀ ER (Rd X R G) (c : Thread nD τ) none (κ₁ := K (c, iSend k)) (κ₂ := K (tgt k c, iRecv k))
    (r₁ := 0) (r₂ := 0) (d₁ := 0) (d₂ := 0) (fd := fd) hd₁ hd₂ () () (amt k) hN (amount_send X R G c k 0) (amount_recv X R G (tgt k c) k 0)
    (due c l) rfl (W := W) (by rw [payload_send]; exact hp₁) (by rw [payload_recv]; exact hp₂ fd) (hr := by routes)) $$ [Ho Ht₁ Ht₂ Hsrc Hdst HF]
  · isplitr; · iapply (inv_send X R G K c k); iexact HK
    isplitr; · iapply (inv_recv X R G K (tgt k c) k); iexact HK
    isplitl [Hsrc]; · iexact Hsrc
    isplitl [Hdst HF]
    · isplitl [Hdst] <;> iassumption
    isplitl [Ho]; · iexact Ho
    isplitl [Ht₁]; · iexact Ht₁
    isplitr; · iapply (opened_send X R G K c k); iexact HK
    isplitl [Ht₂]; · iexact Ht₂
    iapply (opened_recv X R G K (tgt k c) k); iexact HK
  iintro ⟨Hc, Ho⟩
  iapply h
  iapply (St_close X R G K c (.send k) l)
  isplitr; · iexact HK
  isplitl [Ho]; · unfold owing; iexists W; iexact Ho
  isplitl [Hs]; · iexact Hs
  isplitl [Hc]
  · dsimp only [gain]; rw [many_one, hold_credit]; iexact Hc
  iexact Hr

/-- A transfer that carries its source's right along. -/
theorem send_land (k : Fin 48) {s : Shape} {srcM dstM : Memref sig .tc .vmem s .f32} {n : Dev nD} {sS sR : DmaSem sig}
    {hsc : dstM.view.ref.isScScratch = false} {h₁ : srcM.view.WordExact} {h₂ : dstM.view.WordExact}
    {h₃ : DmaTarget.Typed .vmem (.dma sR) (.remote (n : Thread nD τ) dstM (.dma sS) hsc)}
    {q : PosShare TreeShare} {fs : Buf (Elt F) (srcM.view.loc (c : Thread nD τ))} {Fr : sProp 𝕄}
    (hn : n = tgt k c) (hS : sS = sendS k) (hR : sR = recvS k)
    (hN : dstM.view.amount (.dma (recvS k)) = amt k)
    (hneed : many (hold X R G c) (need (.send k)) ⊢ iprop((srcM.view.loc (c : Thread nD τ) ↦[srcM.view.set]{q} fs)
      ∗ (∃ fd, dstM.view.loc (tgt k c : Thread nD τ) ↦[dstM.view.set]{fullShare} fd) ∗ Fr))
    (hp₁ : (emp : sProp 𝕄) ⊢ sendPay X R G k c)
    (hp₂ : ∀ fd, iprop(((dstM.view.loc (tgt k c : Thread nD τ) ↦[dstM.view.set]{fullShare}
      (dstM.view.write (Elt F) fd (srcM.view.read (Elt F) fs) Finset.univ)) ∗ Fr)
      ∗ (srcM.view.loc (c : Thread nD τ) ↦[srcM.view.set]{q} fs)) ⊢ recvPay X R G k (tgt k c))
    {kk : PUnit.{1} → Prog (TpuEff nD τ sig (Elt F) Λ₀ .tc) α} (h : St X R G K c l ⊢ run c (kk ⟨⟩) Q) :
    St X R G K c (.send k :: l)
      ⊢ run c (.op (.enqueueDma srcM (.remote (n : Thread nD τ) dstM (.dma sS) hsc) (.dma sR) h₁ h₂ h₃) kk) Q := by
  subst hn hS hR
  refine (St_open X R G K c _ l).trans ?_
  have hd₁ : (0 : Fin 5) ∈ (Rd X R G).duties (sendCell c k) 0 := by rw [duties_send]; exact Finset.mem_singleton_self _
  have hd₂ : (0 : Fin 5) ∈ (Rd X R G).duties (recvCell (tgt k c) k) 0 := by rw [duties_recv]; exact Finset.mem_singleton_self _
  unfold ghost owing
  iintro ⟨-, #HK, ⟨Ht₁, Ht₂⟩, ⟨%W, Ho⟩, Hs, Hn, Hr⟩
  ihave Hn := hneed $$ Hn
  icases Hn with ⟨Hsrc, ⟨%fd, Hdst⟩, HF⟩
  iapply (Rounds.wp_send_landing_pointsTo_with 𝒱₀ ER (Rd X R G) (c : Thread nD τ) none (κ₁ := K (c, iSend k)) (κ₂ := K (tgt k c, iRecv k))
    (r₁ := 0) (r₂ := 0) (d₁ := 0) (d₂ := 0) (fd := fd) hd₁ hd₂ () () (amt k) hN (amount_send X R G c k 0) (amount_recv X R G (tgt k c) k 0)
    (due c l) rfl (W := W) (by rw [payload_send]; exact hp₁) (by rw [payload_recv]; exact hp₂ fd) (hr := by routes)) $$ [Ho Ht₁ Ht₂ Hsrc Hdst HF]
  · isplitr; · iapply (inv_send X R G K c k); iexact HK
    isplitr; · iapply (inv_recv X R G K (tgt k c) k); iexact HK
    isplitl [Hsrc]; · iexact Hsrc
    isplitl [Hdst HF]
    · isplitl [Hdst] <;> iassumption
    isplitl [Ho]; · iexact Ho
    isplitl [Ht₁]; · iexact Ht₁
    isplitr; · iapply (opened_send X R G K c k); iexact HK
    isplitl [Ht₂]; · iexact Ht₂
    iapply (opened_recv X R G K (tgt k c) k); iexact HK
  iintro ⟨Hc, Ho⟩
  iapply h
  iapply (St_close X R G K c (.send k) l)
  isplitr; · iexact HK
  isplitl [Ho]; · unfold owing; iexists W; iexact Ho
  isplitl [Hs]; · iexact Hs
  isplitl [Hc]
  · dsimp only [gain]; rw [many_one, hold_credit]; iexact Hc
  iexact Hr

/-! ## The kinds of transfers -/

theorem slot_no (k : Fin 18) (h) : (⟨(lift18 k).val % 18, h⟩ : Fin 18) = k := Fin.ext (Nat.mod_eq_of_lt k.isLt)
theorem landPart_18 (k : Fin 18) (t : Dev nD) : landPart X R G (lift18 k) t = landH X k t := by
  unfold landPart; exact dif_pos k.isLt
theorem spend_x (k : Fin 18) (hk : k.val = 0 ∨ k.val = 2) :
    spend (lift18 k) = [.opnd (ent (lift18 k)).d, .slot (ent (lift18 k)).dq (ent (lift18 k)).dg k] := by
  unfold spend; rw [if_pos (show (lift18 k).val = 0 ∨ (lift18 k).val = 2 from hk), slot_no]
theorem spend_quarter (k : Fin 18) (hk : k.val = 1 ∨ k.val = 3) :
    spend (lift18 k) = four.map (.acc 0 (ent (lift18 k)).d (ent (lift18 k)).ja) ++ [.slot (ent (lift18 k)).dq (ent (lift18 k)).dg k] := by
  unfold spend
  rw [if_neg (show ¬ ((lift18 k).val = 0 ∨ (lift18 k).val = 2) from fun h => by have h : k.val = 0 ∨ k.val = 2 := h; omega),
    if_pos (show (lift18 k).val < 4 from by show k.val < 4; omega), slot_no]
theorem spend_chunk (k : Fin 18) (hk : 4 ≤ k.val) :
    spend (lift18 k) = [.acc (stageOf (lift18 k)) (ent (lift18 k)).d (ent (lift18 k)).ja (ent (lift18 k)).jb,
      .slot (ent (lift18 k)).dq (ent (lift18 k)).dg k] ++ (rights (lift18 k)).tail.map .any := by
  unfold spend
  rw [if_neg (show ¬ ((lift18 k).val = 0 ∨ (lift18 k).val = 2) from fun h => by have h : k.val = 0 ∨ k.val = 2 := h; omega),
    if_neg (show ¬ (lift18 k).val < 4 from by show ¬ k.val < 4; omega), if_pos (show (lift18 k).val < 18 from k.isLt), slot_no]
theorem spend_out (k : Fin 48) (hk : 18 ≤ k.val) :
    spend k = [.out (ent k).d (ent k).ja (ent k).jb (shareOf k), .any ⟨(ent k).dq, (ent k).dg, (ent k).d, (ent k).ja, (ent k).jb⟩]
      ++ (rights k).map .any := by
  unfold spend; rw [if_neg (by omega), if_neg (by omega), if_neg (by omega)]
theorem sent_part (k : Fin 18) (hk : ¬ (k.val = 0 ∨ k.val = 2)) : sent X k = part X (ent (lift18 k)).d (stageOf (lift18 k)) := if_neg hk
theorem rights_x : ∀ k : Fin 18, k.val = 0 ∨ k.val = 2 → rights (lift18 k) = [] := by decide
theorem ja_x : ∀ k : Fin 18, k.val = 0 ∨ k.val = 2 → (ent (lift18 k)).ja = xQ (ent (lift18 k)).d := by decide
theorem rights_quarter : ∀ k : Fin 18, k.val = 1 ∨ k.val = 3 →
    (four.map fun b => (⟨0, 0, (ent (lift18 k)).d, (ent (lift18 k)).ja, b⟩ : Right)).Perm (rights (lift18 k)) := by decide
theorem rights_chunk : ∀ k : Fin 18, 4 ≤ k.val →
    rights (lift18 k) = ⟨0, 0, (ent (lift18 k)).d, (ent (lift18 k)).ja, (ent (lift18 k)).jb⟩ :: (rights (lift18 k)).tail := by decide

/-- What arrives in a landing slot. -/
theorem landed_slot {s : Shape} (M : Memref sig .tc .vmem s .f32) (t : Dev nD) (f : Buf (Elt F) (M.view.loc (t : Thread nD τ))) (v : Vec F s .f32) :
    (M.view.loc (t : Thread nD τ) ↦[M.view.set]{fullShare} (M.view.write (Elt F) f v Finset.univ) : sProp 𝕄) ⊢ landPts M t v := by
  unfold landPts
  iintro H
  iexists _
  isplitr
  · ipureintro; exact View.read_write_univ f v
  iexact H

variable {s : Shape} {n : Dev nD} {sS sR : DmaSem sig} {kk : PUnit.{1} → Prog (TpuEff nD τ sig (Elt F) Λ₀ .tc) α}

/-- The first transfers: a quarter of the operand to a landing slot. -/
theorem step_send_x (k : Fin 18) (hk : k.val = 0 ∨ k.val = 2) {srcM dstM M : Memref sig .tc .vmem S256x512 .f32}
    {hsc : dstM.view.ref.isScScratch = false} {h₁ : srcM.view.WordExact} {h₂ : dstM.view.WordExact}
    {h₃ : DmaTarget.Typed .vmem (.dma sR) (.remote (n : Thread nD τ) dstM (.dma sS) hsc)}
    (hn : n = tgt (lift18 k) c) (hS : sS = sendS (lift18 k)) (hR : sR = recvS (lift18 k)) (hd : dstM = M)
    (hs : srcM = xM.slice (quR (ent (lift18 k)).d (qd c + (ent (lift18 k)).ja)) (fun _ => rfl))
    (hN : M.view.amount (.dma (recvS (lift18 k))) = amt (lift18 k))
    (hslot : ∀ t, slotH (F := F) k t = slotPts M t)
    (hland : ∀ t, landH X k t = landPts M t (cut (quR (ent (lift18 k)).d (qd t + rja (lift18 k))) (sent X k (src (lift18 k) t))))
    (h : St X R G K c l ⊢ run c (kk ⟨⟩) Q) :
    St X R G K c (.send (lift18 k) :: l)
      ⊢ run c (.op (.enqueueDma srcM (.remote (n : Thread nD τ) dstM (.dma sS) hsc) (.dma sR) h₁ h₂ h₃) kk) Q := by
  subst hd hs
  have eS := slice_set_x (quR (ent (lift18 k)).d (qd c + (ent (lift18 k)).ja)) (fun _ => rfl)
  refine send_keep c (lift18 k) (q := xShr (ent (lift18 k)).d) (fs := X c) (Fr := iprop(emp)) hn hS hR hN ?_ ?_ ?_ h
  · dsimp only [need]; rw [spend_x k hk, eS, many_cons, many_one, hold_opnd, hold_slot, hslot, ja_x k hk]
    unfold slotPts
    iintro ⟨H, H'⟩
    isplitl [H]; · iexact H
    isplitl [H']; · iexact H'
    iempintro
  · unfold sendPay
    rw [if_pos (show (lift18 k).val = 0 ∨ (lift18 k).val = 2 from hk), eS, hold_opnd, ja_x k hk]
  · intro fd
    unfold recvPay
    rw [landPart_18, hland, rights_x k hk, src_tgt, q_tgt, show sent X k = X from if_pos hk]
    iintro ⟨H, -⟩
    isplitl [H]
    · iapply (landed_slot dstM (tgt (lift18 k) c) fd _) $$ H
    · unfold many; iempintro

/-- The second transfers: a quarter of the running sum. -/
theorem step_send_quarter (k : Fin 18) (hk : k.val = 1 ∨ k.val = 3) {srcM dstM M : Memref sig .tc .vmem S256x512 .f32}
    {hsc : dstM.view.ref.isScScratch = false} {h₁ : srcM.view.WordExact} {h₂ : dstM.view.WordExact}
    {h₃ : DmaTarget.Typed .vmem (.dma sR) (.remote (n : Thread nD τ) dstM (.dma sS) hsc)}
    (hn : n = tgt (lift18 k) c) (hS : sS = sendS (lift18 k)) (hR : sR = recvS (lift18 k)) (hd : dstM = M)
    (hs : srcM = oM.slice (quR (ent (lift18 k)).d (qd c + (ent (lift18 k)).ja)) (fun _ => rfl))
    (hN : M.view.amount (.dma (recvS (lift18 k))) = amt (lift18 k))
    (hslot : ∀ t, slotH (F := F) k t = slotPts M t)
    (hland : ∀ t, landH X k t = landPts M t (cut (quR (ent (lift18 k)).d (qd t + rja (lift18 k))) (sent X k (src (lift18 k) t))))
    (h : St X R G K c l ⊢ run c (kk ⟨⟩) Q) :
    St X R G K c (.send (lift18 k) :: l)
      ⊢ run c (.op (.enqueueDma srcM (.remote (n : Thread nD τ) dstM (.dma sS) hsc) (.dma sR) h₁ h₂ h₃) kk) Q := by
  subst hd hs
  have eS := slice_set_o (quR (ent (lift18 k)).d (qd c + (ent (lift18 k)).ja)) (fun _ => rfl)
  have hk' : ¬ (k.val = 0 ∨ k.val = 2) := by omega
  have hst : stageOf (lift18 k) = 0 := if_pos (show k.val < 4 by omega)
  refine send_land c (lift18 k) (q := fullShare) (fs := part X (ent (lift18 k)).d 0 c) (Fr := iprop(emp)) hn hS hR hN ?_ ?_ ?_ h
  · dsimp only [need]; rw [spend_quarter k hk, many_append, many_map, many_one, hold_slot, hslot, eS, quarter_acc]
    unfold slotPts
    iintro ⟨H, H'⟩
    isplitl [H]; · iexact H
    isplitl [H']; · iexact H'
    iempintro
  · unfold sendPay
    rw [if_neg (show ¬ ((lift18 k).val = 0 ∨ (lift18 k).val = 2) from hk'), if_pos (show (lift18 k).val < 18 from k.isLt)]
  · intro fd
    unfold recvPay
    rw [landPart_18, hland, src_tgt, q_tgt, sent_part k hk', hst, eS, ← many_perm _ (rights_quarter k hk), many_map]
    iintro ⟨⟨H, -⟩, H'⟩
    isplitl [H]
    · iapply (landed_slot dstM (tgt (lift18 k) c) fd _) $$ H
    · iapply (quarter_rights c (ent (lift18 k)).d (ent (lift18 k)).ja (part X (ent (lift18 k)).d 0 c)) $$ H'

/-- The next fourteen: a chunk of a running sum to a landing slot. -/
theorem step_send_chunk (k : Fin 18) (hk : 4 ≤ k.val) {srcM dstM M : Memref sig .tc .vmem S64x512 .f32}
    {hsc : dstM.view.ref.isScScratch = false} {h₁ : srcM.view.WordExact} {h₂ : dstM.view.WordExact}
    {h₃ : DmaTarget.Typed .vmem (.dma sR) (.remote (n : Thread nD τ) dstM (.dma sS) hsc)}
    (hn : n = tgt (lift18 k) c) (hS : sS = sendS (lift18 k)) (hR : sR = recvS (lift18 k)) (hd : dstM = M)
    (hs : srcM = oM.slice (chR (ent (lift18 k)).d (qd c + (ent (lift18 k)).ja) (gd c + (ent (lift18 k)).jb)) (fun _ => rfl))
    (hN : M.view.amount (.dma (recvS (lift18 k))) = amt (lift18 k))
    (hslot : ∀ t, slotH (F := F) k t = slotPts M t)
    (hland : ∀ t, landH X k t = landPts M t
      (cut (chR (ent (lift18 k)).d (qd t + rja (lift18 k)) (gd t + rjb (lift18 k))) (sent X k (src (lift18 k) t))))
    (h : St X R G K c l ⊢ run c (kk ⟨⟩) Q) :
    St X R G K c (.send (lift18 k) :: l)
      ⊢ run c (.op (.enqueueDma srcM (.remote (n : Thread nD τ) dstM (.dma sS) hsc) (.dma sR) h₁ h₂ h₃) kk) Q := by
  subst hd hs
  have eS := slice_set_o (chR (ent (lift18 k)).d (qd c + (ent (lift18 k)).ja) (gd c + (ent (lift18 k)).jb)) (fun _ => rfl)
  have hk' : ¬ (k.val = 0 ∨ k.val = 2) := by omega
  refine send_land c (lift18 k) (q := fullShare) (fs := part X (ent (lift18 k)).d (stageOf (lift18 k)) c)
    (Fr := many (hold X R G c) ((rights (lift18 k)).tail.map .any)) hn hS hR hN ?_ ?_ ?_ h
  · dsimp only [need]; rw [spend_chunk k hk, many_append, many_cons, many_one, hold_slot, hslot, eS, hold_acc]
    unfold slotPts chPts
    iintro ⟨⟨H, H'⟩, H''⟩
    isplitl [H]; · iexact H
    isplitl [H']; · iexact H'
    iexact H''
  · unfold sendPay
    rw [if_neg (show ¬ ((lift18 k).val = 0 ∨ (lift18 k).val = 2) from hk'), if_pos (show (lift18 k).val < 18 from k.isLt)]
  · intro fd
    unfold recvPay
    rw [landPart_18, hland, src_tgt, q_tgt, g_tgt, sent_part k hk', eS, rights_chunk k hk, many_cons, hold_own, many_map, ← rights_chunk k hk]
    iintro ⟨⟨H, H''⟩, H'⟩
    isplitl [H]
    · iapply (landed_slot dstM (tgt (lift18 k) c) fd _) $$ H
    isplitl [H']
    · unfold chPts; iexists _; iexact H'
    · iexact H''

/-- The last thirty: a finished chunk to the same place of another device's result. -/
theorem step_send_out (k : Fin 48) (hk : 18 ≤ k.val) {srcM dstM : Memref sig .tc .vmem S64x512 .f32}
    {hsc : dstM.view.ref.isScScratch = false} {h₁ : srcM.view.WordExact} {h₂ : dstM.view.WordExact}
    {h₃ : DmaTarget.Typed .vmem (.dma sR) (.remote (n : Thread nD τ) dstM (.dma sS) hsc)}
    (hn : n = tgt k c) (hS : sS = sendS k) (hR : sR = recvS k)
    (hs : srcM = oM.slice (chR (ent k).d (qd c + (ent k).ja) (gd c + (ent k).jb)) (fun _ => rfl))
    (hd : dstM = oM.slice (chR (ent k).d (qd c + (ent k).ja) (gd c + (ent k).jb)) (fun _ => rfl))
    (h : St X R G K c l ⊢ run c (kk ⟨⟩) Q) :
    St X R G K c (.send k :: l)
      ⊢ run c (.op (.enqueueDma srcM (.remote (n : Thread nD τ) dstM (.dma sS) hsc) (.dma sR) h₁ h₂ h₃) kk) Q := by
  subst hd hs
  have eS := slice_set_o (chR (ent k).d (qd c + (ent k).ja) (gd c + (ent k).jb)) (fun _ => rfl)
  have hN : (oM.slice (chR (ent k).d (qd c + (ent k).ja) (gd c + (ent k).jb)) (fun _ => rfl)).view.amount (.dma (recvS k)) = amt k := by
    unfold amt; rw [if_neg (by omega)]; rfl
  refine send_keep c k (q := shr (shareOf k)) (fs := total X R G)
    (Fr := many (hold X R G c) ((rights k).map .any)) hn hS hR hN ?_ ?_ ?_ h
  · dsimp only [need]; rw [spend_out k hk, many_append, many_cons, many_one, hold_any, eS, hold_out]
    unfold chPts tgt
    iintro ⟨⟨H, ⟨%f, H'⟩⟩, H''⟩
    isplitl [H]; · iexact H
    isplitl [H']; · iexists f; iexact H'
    iexact H''
  · unfold sendPay
    rw [if_neg (by omega), if_neg (by omega), eS, hold_out]
    exact BI.Entails.refl _
  · intro fd
    unfold recvPay landPart
    rw [dif_neg (by omega), src_tgt, q_tgt, g_tgt, many_map, eS]
    unfold chPts
    exact BI.sep_mono (Entails.of_eq (write_cut (chR (ent k).d (qd c + (ent k).ja) (gd c + (ent k).jb)) (fun _ => rfl) (tgt k c) fullShare fd (total X R G)))
      (BI.Entails.refl _)
end

end Cert.Plan

end

end
-- ==== Proof.Sums.lean ====
/-
  The rules of the additions and of the normalisation: what a device loads, adds and stores on its own.
-/
module

public import proofs.«01_k».proof.Proof.Sends
public import Idealize.ShloMosaic.Lib.Pipeline.Value

@[expose] public section

noncomputable section

namespace Cert.Plan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Values -/

/-- The sum made from landing slot `k` adds what transfer `k` brought to the operand, or to the ring's sum. -/
theorem part_made (X : Dev nD → Vec F S1024x1024 .f32) (k : Fin 18) (c : Dev nD) :
    part X (ent (lift18 k)).d (madeOf k) c
      = addf (if k.val < 12 then X c else part X (ent (lift18 k)).d 2 c) (sent X k (src (lift18 k) c)) := by
  have e : ∀ k : Fin 18, ∀ c : Dev nD, src (lift18 k) c = if k.val < 12 then prv (ent (lift18 k)).d c else prz (ent (lift18 k)).d c := by
    decide +kernel
  rw [e]
  fin_cases k <;> rfl

/-- The sum of two cuts is the cut of the sum. -/
theorem cut_add {s : Shape} (r : Rect s) (f g : Vec F s .f32) : addf (φ := .f32) (F := F) (cut r f) (cut r g) = cut (F := F) (e := .f32) r (addf (φ := .f32) (F := F) f g) := rfl

/-- The sum a device stores, from what it loaded. -/
theorem made_sum (X : Dev nD → Vec F S1024x1024 .f32) (k : Fin 18) (c : Dev nD) (r : Rect S1024x1024) {s3 : Shape} (w : Vec F s3 .f32)
    (b : Vec F S1024x1024 .f32) (hb : b = if k.val < 12 then X c else part X (ent (lift18 k)).d 2 c) (h₁ : r.shape.ShapeCasts r.shape) (h₂ : s3.ShapeCasts r.shape)
    (hw : shapeCast r.shape w h₂ = cut r (sent X k (src (lift18 k) c))) :
    addf (φ := .f32) (F := F) (shapeCast r.shape (cut r b) h₁) (shapeCast r.shape w h₂) = cut r (part X (ent (lift18 k)).d (madeOf k) c) := by
  rw [hw, shapeCast_self, part_made, hb]; rfl

theorem both_ch (X : Dev nD → Vec F S1024x1024 .f32) (c : Dev nD) (d : Fin 2) (a b : Fin 4) (i : S1024x1024.Idx) (hi : i ∈ (chR d a b).set) :
    both X c i = part X d 5 c i := by
  rw [mem_ch] at hi
  unfold both
  fin_cases d
  · rw [if_pos (by dsimp only at hi; omega)]; rfl
  · rw [if_neg (by dsimp only at hi; omega)]; rfl

theorem owner_row : ∀ (c : Dev nD) (n : Fin 64), owner (256 * (qd c + 1).val + 64 * (gd c + 1).val + n.val) = c := by decide +kernel

theorem unit_val {s : Shape} {off size : Fin s.rank → ℕ} (p : ∀ a, off a + size a ≤ s.size a) (j : (Rect.unit (s := s) off size p).shape.Idx) (a : Fin s.rank) :
    ((Rect.unit (s := s) off size p).emb j a).val = off a + (j a).val := by
  rw [Rect.emb_apply]
  show off a + 1 * (j a).val = _
  rw [Nat.one_mul]

/-- The normalised rows are those of the result. -/
theorem rows_total (X R : Dev nD → Vec F S1024x1024 .f32) (G : Dev nD → Vec F S1x1024 .f32) (c : Dev nD) :
    rowsOf X R G c = cut (rwR (qd c + 1) (gd c + 1)) (total X R G) := by
  funext j
  have e0 : ((rwR (qd c + 1) (gd c + 1)).emb j 0).val = 256 * (qd c + 1).val + 64 * (gd c + 1).val + (j 0).val := unit_val _ _ _
  have e1 : ((rwR (qd c + 1) (gd c + 1)).emb j 1).val = (j 1).val := (unit_val _ _ _).trans (Nat.zero_add _)
  have h0 : (j 0).val < 64 := (j 0).isLt
  unfold cut total
  rw [e0, owner_row c ⟨(j 0).val, h0⟩]
  congr 1
  funext a
  apply Fin.ext
  unfold within
  fin_cases a
  · show (j 0).val = ((rwR (qd c + 1) (gd c + 1)).emb j 0).val % 64
    rw [e0]; omega
  · exact e1.symm

theorem takeAll_self : ∀ (ns R : List Hold), takeAll ns (ns ++ R) = some R
  | [], R => rfl
  | n :: ns, R => by
    unfold takeAll
    rw [List.cons_append, if_pos List.mem_cons_self, List.erase_cons_head]
    exact takeAll_self ns R

section
variable {X R : Dev nD → Vec F S1024x1024 .f32} {G : Dev nD → Vec F S1x1024 .f32}
variable {K : Dev nD × Fin 97 → ℕ}
variable {α : Type} {Q : α → sProp (MT nD τ sig Unit (Elt F) ℕ UU ℕ)} (c : Dev nD) {l : List Act}

/-- Putting back what an action needs. -/
theorem St_back (a : Act) :
    iprop(⌜mayWait a l = true⌝ ∗ recs X R G K ∗ ghost c a ∗ owing c (a :: l) ∗ static X R G c
      ∗ many (hold X R G c) (need a) ∗ Rest X R G c a l) ⊢ St X R G K c (a :: l) := by
  unfold St Rest
  rw [many_cons]
  iintro ⟨%hm, #HK, Hg, Ho, Hs, Hn, Hgs, ⟨%H, %hgo, HH⟩⟩
  isplitr; · iexact HK
  isplitl [Hg Hgs]
  · isplitl [Hg] <;> iassumption
  isplitl [Ho]; · iexact Ho
  isplitl [Hs]; · iexact Hs
  iexists (need a ++ H)
  isplitr
  · ipureintro
    unfold go
    rw [takeAll_self]
    exact (Bool.and_eq_true _ _).mpr ⟨hm, hgo⟩
  rw [many_append]
  isplitl [Hn] <;> iassumption

/-! ## Loads -/

/-- Loading from the operand. -/
theorem ld_x {off off' size : Fin 2 → ℕ} {p : ∀ i, off i + size i ≤ S1024x1024.size i} (p' : ∀ i, off' i + size i ≤ S1024x1024.size i)
    (ho : off = off') {hl : xM.view.LoadsAt (Rect.unit (s := S1024x1024) off size p).toLoadRect}
    {kk : Vec F (Rect.unit (s := S1024x1024) off size p).shape .f32 → Prog (TpuEff nD τ sig (Elt F) Λ₀ .tc) α}
    (h : St X R G K c l ⊢ run c (kk (cut (Rect.unit (s := S1024x1024) off' size p') (X c))) Q) :
    St X R G K c l ⊢ run c (.op (.load xM (Rect.unit (s := S1024x1024) off size p).toLoadRect hl) kk) Q := by
  subst ho
  unfold St static
  iintro ⟨HK, Hg, Ho, ⟨Hx, Hs⟩, HH⟩
  iapply (wp_load_rect 𝒱₀ (c : Thread nD τ) none Set.univ (m := xM) (r := Rect.unit (s := S1024x1024) off size p) (S := Finset.univ)
    (q := fullShare.left) (f := X c) (Finset.subset_univ _)) $$ [Hx]
  · iexact Hx
  iintro Hx
  iapply (show St X R G K c l ⊢ _ from h)
  unfold St static
  isplitl [HK]; · iexact HK
  isplitl [Hg]; · iexact Hg
  isplitl [Ho]; · iexact Ho
  isplitl [Hx Hs]
  · isplitl [Hx]; · iexact Hx
    iexact Hs
  iexact HH

/-- Loading from the landing slot of the addition to come. -/
theorem ld_slot (k : Fin 18) {S3 s : Shape} {m : Memref sig .tc .vmem S3 .f32} {r : Rect S3} {hr} {hsq : r.shape.Squeezes s} (hc : r.shape.ShapeCasts s)
    {hl : m.view.LoadsAt r.toLoadRect} {kk : Vec F r.shape .f32 → Prog (TpuEff nD τ sig (Elt F) Λ₀ .tc) α} {v : Vec F s .f32}
    (hland : landH X k c = landPts ((m.slice r hr).squeeze s hsq) c v)
    (h : ∀ w, shapeCast s w hc = v → St X R G K c (.acc k :: l) ⊢ run c (kk w) Q) :
    St X R G K c (.acc k :: l) ⊢ run c (.op (.load m r.toLoadRect hl) kk) Q := by
  refine (St_open X R G K c _ l).trans ?_
  dsimp only [need]
  rw [many_cons, hold_landed, hland]
  unfold landPts
  iintro ⟨%hm, #HK, Hg, Ho, Hs, ⟨⟨%f, %hf, Hl⟩, Hn⟩, Hr⟩
  have hset : ((m.slice r hr).squeeze s hsq).view.set = (m.access r).set := View.set_reshape ..
  iapply (wp_load_rect 𝒱₀ (c : Thread nD τ) none Set.univ (m := m) (r := r) (S := ((m.slice r hr).squeeze s hsq).view.set)
    (q := fullShare) (f := f) (le_of_eq hset.symm)) $$ [Hl]
  · iexact Hl
  iintro Hl
  iapply (h _ (show shapeCast s ((m.access r).read (Elt F) f) hc = v from hf))
  iapply (St_back (X := X) (R := R) (G := G) (K := K) c (.acc k) (l := l))
  isplitr; · ipureintro; exact hm
  isplitr; · iexact HK
  isplitl [Hg]; · iexact Hg
  isplitl [Ho]; · iexact Ho
  isplitl [Hs]; · iexact Hs
  isplitr [Hr]
  · dsimp only [need]
    rw [many_cons, hold_landed, hland]
    unfold landPts
    isplitl [Hl]
    · iexists f
      isplitr; · ipureintro; exact hf
      iexact Hl
    iexact Hn
  iexact Hr

/-- Loading the running sum that the addition to come adds to. -/
theorem ld_out (k : Fin 18) (hk : 12 ≤ k.val) {off : Fin 2 → ℕ} {p : ∀ i, off i + S64x512.size i ≤ S1024x1024.size i}
    (ho : off = ![256 * (qd c + rja (lift18 k)).val + 64 * (gd c + rjb (lift18 k)).val, 512 * (ent (lift18 k)).d.val])
    {hl : oM.view.LoadsAt (Rect.unit (s := S1024x1024) off S64x512.size p).toLoadRect}
    {kk : Vec F (Rect.unit (s := S1024x1024) off S64x512.size p).shape .f32 → Prog (TpuEff nD τ sig (Elt F) Λ₀ .tc) α}
    (h : St X R G K c (.acc k :: l)
      ⊢ run c (kk (cut (chR (ent (lift18 k)).d (qd c + rja (lift18 k)) (gd c + rjb (lift18 k))) (part X (ent (lift18 k)).d 2 c))) Q) :
    St X R G K c (.acc k :: l) ⊢ run c (.op (.load oM (Rect.unit (s := S1024x1024) off S64x512.size p).toLoadRect hl) kk) Q := by
  subst ho
  refine (St_open X R G K c _ l).trans ?_
  have hneed : need (.acc k) = [.landed k, .acc 2 (ent (lift18 k)).d (rja (lift18 k)) (rjb (lift18 k))] := by
    dsimp only [need]; rw [if_neg (by omega), if_neg (by omega)]
  rw [hneed, many_cons, many_one, hold_acc]
  unfold chPts
  iintro ⟨%hm, #HK, Hg, Ho, Hs, ⟨Hl, Ha⟩, Hr⟩
  iapply (wp_load_rect 𝒱₀ (c : Thread nD τ) none Set.univ (m := oM) (r := chR (ent (lift18 k)).d (qd c + rja (lift18 k)) (gd c + rjb (lift18 k)))
    (S := (chR (ent (lift18 k)).d (qd c + rja (lift18 k)) (gd c + rjb (lift18 k))).set)
    (q := fullShare) (f := part X (ent (lift18 k)).d 2 c) (le_of_eq (slice_set_o _ fun _ => rfl))) $$ [Ha]
  · iexact Ha
  iintro Ha
  iapply (show St X R G K c (.acc k :: l) ⊢ _ from h)
  iapply (St_back (X := X) (R := R) (G := G) (K := K) c (.acc k) (l := l))
  isplitr; · ipureintro; exact hm
  isplitr; · iexact HK
  isplitl [Hg]; · iexact Hg
  isplitl [Ho]; · iexact Ho
  isplitl [Hs]; · iexact Hs
  isplitr [Hr]
  · rw [hneed, many_cons, many_one, hold_acc]
    unfold chPts
    isplitl [Hl]; · iexact Hl
    iexact Ha
  iexact Hr

/-! ## Stores -/

theorem land_slot (k : Fin 18) : landH X k c ⊢ slotH k c := by
  have e {s : Shape} (M : Memref sig .tc .vmem s .f32) (v : Vec F s .f32) : landPts M c v ⊢ slotPts M c := by
    unfold landPts slotPts
    iintro ⟨%f, -, H⟩
    iexists f; iexact H
  unfold landH slotH
  split
  · exact e _ _
  split <;> exact e _ _

/-- Loading and then storing on a rectangle one holds. -/
theorem load_store {r : Rect S1024x1024} (hr : ∀ a, r.stride a = 1) {f g : Vec F S1024x1024 .f32} {v : Vec F r.shape .f32} (hv : v = cut r g)
    {hl : oM.view.LoadsAt r.toLoadRect} {hx : (oM.access r).Stores Finset.univ} {hM}
    {kk : PUnit.{1} → Prog (TpuEff nD τ sig (Elt F) Λ₀ .tc) α} :
    (oLoc c ↦[r.set]{fullShare} f) ⊢ iprop(((oLoc c ↦[r.set]{fullShare} g) -∗ run c (kk ⟨⟩) Q)
      -∗ run c (.op (.load oM r.toLoadRect hl) fun _ => .op (.store oM r v Finset.univ hx hM) kk) Q) := by
  subst hv
  have hset : (oM.access r).set = r.set := slice_set_o r hr
  iintro H Hk
  iapply (wp_load_rect 𝒱₀ (c : Thread nD τ) none Set.univ (m := oM) (r := r) (S := r.set) (q := fullShare) (f := f) (le_of_eq hset)) $$ [H]
  · iexact H
  iintro H
  iapply (wp_store 𝒱₀ (c : Thread nD τ) none Set.univ (m := oM) (r := r) (w := cut r g) (Mk := Finset.univ) (S := r.set) (f := f)
    (le_of_eq ((View.setOn_univ _).trans hset))) $$ [H]
  · iexact H
  iintro H
  iapply Hk
  iapply (Entails.of_eq (write_cut r hr c fullShare f g)) $$ H

/-- The addition of a quarter. -/
theorem st_quarter (k : Fin 18) (hk : k.val < 4) {off : Fin 2 → ℕ} {p p' : ∀ i, off i + S256x512.size i ≤ S1024x1024.size i}
    (ho : off = ![256 * (qd c + rja (lift18 k)).val, 512 * (ent (lift18 k)).d.val])
    {hl : oM.view.LoadsAt (Rect.unit (s := S1024x1024) off S256x512.size p).toLoadRect}
    {v : Vec F (Rect.unit (s := S1024x1024) off S256x512.size p').shape .f32} {hx} {hM}
    (hv : v = cut (quR (ent (lift18 k)).d (qd c + rja (lift18 k))) (part X (ent (lift18 k)).d (madeOf k) c))
    {kk : PUnit.{1} → Prog (TpuEff nD τ sig (Elt F) Λ₀ .tc) α} (h : St X R G K c l ⊢ run c (kk ⟨⟩) Q) :
    St X R G K c (.acc k :: l) ⊢ run c (.op (.load oM (Rect.unit (s := S1024x1024) off S256x512.size p).toLoadRect hl) fun _ =>
      .op (.store oM (Rect.unit (s := S1024x1024) off S256x512.size p') v Finset.univ hx hM) kk) Q := by
  subst ho
  refine (St_open X R G K c _ l).trans ?_
  dsimp only [need]
  rw [if_pos hk, many_cons, hold_landed, many_map, quarter_own]
  iintro ⟨-, HK, -, Ho, Hs, ⟨Hl, Ha⟩, Hr⟩
  ihave Ha := (quarter_any (X c) c (ent (lift18 k)).d (qd c + rja (lift18 k))) $$ Ha
  icases Ha with ⟨%f, Ha⟩
  iapply (load_store (F := F) c (r := quR (ent (lift18 k)).d (qd c + rja (lift18 k))) (fun _ => rfl) (f := f) hv) $$ [Ha]
  · iexact Ha
  iintro Ha
  iapply (show St X R G K c l ⊢ _ from h)
  iapply (St_close X R G K c (.acc k) l)
  isplitl [HK]; · iexact HK
  isplitl [Ho]; · iexact Ho
  isplitl [Hs]; · iexact Hs
  isplitr [Hr]
  · dsimp only [gain]
    rw [if_pos hk, many_cons, many_map, quarter_acc, hold_slot, mv_zero]
    isplitl [Hl]; · iapply (land_slot c k) $$ Hl
    iexact Ha
  iexact Hr

/-- The addition of a chunk. -/
theorem st_chunk (k : Fin 18) (hk : 4 ≤ k.val) {off : Fin 2 → ℕ} {p p' : ∀ i, off i + S64x512.size i ≤ S1024x1024.size i}
    (ho : off = ![256 * (qd c + rja (lift18 k)).val + 64 * (gd c + rjb (lift18 k)).val, 512 * (ent (lift18 k)).d.val])
    {hl : oM.view.LoadsAt (Rect.unit (s := S1024x1024) off S64x512.size p).toLoadRect}
    {v : Vec F (Rect.unit (s := S1024x1024) off S64x512.size p').shape .f32} {hx} {hM}
    (hv : v = cut (chR (ent (lift18 k)).d (qd c + rja (lift18 k)) (gd c + rjb (lift18 k))) (part X (ent (lift18 k)).d (madeOf k) c))
    {kk : PUnit.{1} → Prog (TpuEff nD τ sig (Elt F) Λ₀ .tc) α} (h : St X R G K c l ⊢ run c (kk ⟨⟩) Q) :
    St X R G K c (.acc k :: l) ⊢ run c (.op (.load oM (Rect.unit (s := S1024x1024) off S64x512.size p).toLoadRect hl) fun _ =>
      .op (.store oM (Rect.unit (s := S1024x1024) off S64x512.size p') v Finset.univ hx hM) kk) Q := by
  subst ho
  refine (St_open X R G K c _ l).trans ?_
  have hneed : many (hold X R G c) (need (.acc k))
      ⊢ iprop(landH X k c ∗ ∃ f, oLoc c ↦[(chR (ent (lift18 k)).d (qd c + rja (lift18 k)) (gd c + rjb (lift18 k))).set]{fullShare} f) := by
    dsimp only [need]
    rw [if_neg (by omega), many_cons, hold_landed]
    refine BI.sep_mono (BI.Entails.refl _) ?_
    split
    · rw [many_one, hold_own]; exact BI.Entails.refl _
    · rw [many_one, hold_acc]; unfold chPts; exact (show (oLoc c ↦[(chR (ent (lift18 k)).d (qd c + rja (lift18 k)) (gd c + rjb (lift18 k))).set]{fullShare} _ : sProp 𝕄) ⊢ _ from by iintro H; iexists _; iexact H)
  iintro ⟨-, HK, -, Ho, Hs, Hn, Hr⟩
  ihave Hn := hneed $$ Hn
  icases Hn with ⟨Hl, ⟨%f, Ha⟩⟩
  iapply (load_store (F := F) c (r := chR (ent (lift18 k)).d (qd c + rja (lift18 k)) (gd c + rjb (lift18 k))) (fun _ => rfl) (f := f) hv) $$ [Ha]
  · iexact Ha
  iintro Ha
  iapply (show St X R G K c l ⊢ _ from h)
  iapply (St_close X R G K c (.acc k) l)
  isplitl [HK]; · iexact HK
  isplitl [Ho]; · iexact Ho
  isplitl [Hs]; · iexact Hs
  isplitr [Hr]
  · dsimp only [gain]
    rw [if_neg (by omega), many_cons, many_one, hold_slot, mv_zero, hold_acc]
    isplitl [Hl]; · iapply (land_slot c k) $$ Hl
    unfold chPts
    iexact Ha
  iexact Hr

/-! ## The normalisation -/

/-- Rows are their two halves. -/
theorem row_eq (a b : Fin 4) (q : PosShare TreeShare) (f : Vec F S1024x1024 .f32) :
    (oLoc c ↦[(rwR a b).set]{q} f : sProp 𝕄) = iprop(chPts c 0 a b q f ∗ chPts c 1 a b q f) := by
  rw [rw_union, pointsTo_biUnion _ _ fun d _ d' _ h => ch_disjoint d d' a b a b fun e => h (by simpa using e),
    many_univ _ [(0 : Fin 2), 1] (by decide) (by decide), many_cons, many_one]; rfl

theorem row_both (a b : Fin 4) :
    (oLoc c ↦[(rwR a b).set]{fullShare} both X c : sProp 𝕄) = iprop(chPts c 0 a b fullShare (part X 0 5 c) ∗ chPts c 1 a b fullShare (part X 1 5 c)) := by
  rw [row_eq]
  unfold chPts
  exact congrArg₂ (fun P P' : sProp 𝕄 => iprop(P ∗ P')) (pointsTo_congr (both_ch X c 0 a b)) (pointsTo_congr (both_ch X c 1 a b))

theorem row_total (a b : Fin 4) :
    (oLoc c ↦[(rwR a b).set]{fullShare} total X R G : sProp 𝕄)
      = many (fun s : Fin 2 × Fin 6 => chPts c s.1 a b (shr s.2) (total X R G)) [(0, 1), (0, 2), (1, 1), (1, 2)] := by
  rw [row_eq, shares_eq 18, shares_eq 18, show sharesOf 18 = [1, 2] from by decide]
  simp only [many, sep_emp_eq, sep_assoc_eq]

theorem step_norm {off : Fin 2 → ℕ} {p p' p'' p''' : ∀ i, off i + S64x1024.size i ≤ S1024x1024.size i} {pg}
    (ho : off = ![256 * (qd c + 1).val + 64 * (gd c + 1).val, 0])
    {h₁ h₂ h₃ h₄ hx hM} {kk : PUnit.{1} → Prog (TpuEff nD τ sig (Elt F) Λ₀ .tc) α} (h : St X R G K c l ⊢ run c (kk ⟨⟩) Q) :
    St X R G K c (.norm :: l) ⊢ run c (.op (.load oM (Rect.unit (s := S1024x1024) off S64x1024.size p).toLoadRect h₁) fun v =>
      .op (.load rM (Rect.unit (s := S1024x1024) off S64x1024.size p').toLoadRect h₂) fun v' =>
      .op (.load gM (Rect.unit (s := S1x1024) ![0, 0] S1x1024.size pg).toLoadRect h₃) fun v'' =>
      .op (.load oM (Rect.unit (s := S1024x1024) off S64x1024.size p'').toLoadRect h₄) fun _ =>
      .op (.store oM (Rect.unit (s := S1024x1024) off S64x1024.size p''') (k0_pay20 v v' v'') Finset.univ hx hM) kk) Q := by
  subst ho
  refine (St_open X R G K c _ l).trans ?_
  dsimp only [need]
  rw [many_cons, many_one, hold_acc, hold_acc, ← row_both]
  unfold static
  iintro ⟨-, HK, -, Ho, ⟨Hx, Hx0, Hx1, Hres, Hgam⟩, Hn, Hr⟩
  iapply (wp_load_rect 𝒱₀ (c : Thread nD τ) none Set.univ (m := oM) (r := rwR (qd c + 1) (gd c + 1)) (S := (rwR (qd c + 1) (gd c + 1)).set)
    (q := fullShare) (f := both X c) (le_of_eq (slice_set_o _ fun _ => rfl))) $$ [Hn]
  · iexact Hn
  iintro Hn
  iapply (wp_load_rect 𝒱₀ (c : Thread nD τ) none Set.univ (m := rM) (r := rwR (qd c + 1) (gd c + 1)) (S := Finset.univ)
    (q := fullShare) (f := R c) (Finset.subset_univ _)) $$ [Hres]
  · iexact Hres
  iintro Hres
  iapply (wp_load_rect 𝒱₀ (c : Thread nD τ) none Set.univ (m := gM) (r := Rect.unit (s := S1x1024) ![0, 0] S1x1024.size pg) (S := Finset.univ)
    (q := fullShare) (f := G c) (Finset.subset_univ _)) $$ [Hgam]
  · iexact Hgam
  iintro Hgam
  have hg : (gM.access (Rect.unit (s := S1x1024) ![0, 0] S1x1024.size pg)).read (Elt F) (G c) = G c := by
    funext j
    show G c _ = G c j
    congr 1
    funext a
    apply Fin.ext
    fin_cases a
    · exact (unit_val _ _ _).trans (Nat.zero_add _)
    · exact (unit_val _ _ _).trans (Nat.zero_add _)
  iapply (load_store (F := F) c (r := rwR (qd c + 1) (gd c + 1)) (fun _ => rfl) (f := both X c) (g := total X R G) (v := k0_pay20 _ _ _)
    (by rw [hg]; exact rows_total X R G c)) $$ [Hn]
  · iexact Hn
  iintro Hn
  iapply (show St X R G K c l ⊢ _ from h)
  iapply (St_close X R G K c .norm l)
  isplitl [HK]; · iexact HK
  isplitl [Ho]; · iexact Ho
  isplitl [Hx Hx0 Hx1 Hres Hgam]
  · unfold static
    isplitl [Hx]; · iexact Hx
    isplitl [Hx0]; · iexact Hx0
    isplitl [Hx1]; · iexact Hx1
    isplitl [Hres]; · iexact Hres
    iexact Hgam
  isplitr [Hr]
  · dsimp only [gain]
    iapply (Entails.of_eq (row_total (X := X) (R := R) (G := G) c (qd c + 1) (gd c + 1))) $$ Hn
  iexact Hr
end

end Cert.Plan

end

end
-- ==== Proof.Ends.lean ====
/-
  What a device program starts with and ends with, as the launch gives and takes it: whole buffers. The result array
  is its 32 chunks, the scratch arrays are their slots, and the operand is what stays with the device and what the
  two first transfers read.
-/
module

public import proofs.«01_k».proof.Proof.Sums

@[expose] public section

noncomputable section

namespace Cert.Plan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer and its pieces -/

theorem parts_split {T : Type} [Fintype T] [DecidableEq T] (l : List T) (hl : l.Nodup) (hm : ∀ a, a ∈ l) {ℓ : Loc nD τ sig}
    (S : T → Finset (Idx ℓ)) (hd : ∀ a b, a ≠ b → Disjoint (S a) (S b)) (hu : Finset.univ.biUnion S = Finset.univ) :
    (iprop(∃ f, ℓ ↦{fullShare} f) : sProp 𝕄) ⊢ many (fun a => iprop(∃ f, ℓ ↦[S a]{fullShare} f)) l := by
  iintro ⟨%f, H⟩
  iapply (show (ℓ ↦{fullShare} f : sProp 𝕄) ⊢ _ from by
    rw [← hu, pointsTo_biUnion _ _ fun a _ b _ h => hd a b h, many_univ _ l hl hm]
    exact many_mono fun a _ => (by iintro H; iexists f; iexact H)) $$ H

theorem parts_join {T : Type} [Fintype T] [DecidableEq T] (l : List T) (hl : l.Nodup) (hm : ∀ a, a ∈ l) {ℓ : Loc nD τ sig} (f₀ : Buf (Elt F) ℓ)
    (S : T → Finset (Idx ℓ)) (hd : ∀ a b, a ≠ b → Disjoint (S a) (S b)) (hu : Finset.univ.biUnion S = Finset.univ) :
    many (fun a => (iprop(∃ f, ℓ ↦[S a]{fullShare} f) : sProp 𝕄)) l ⊢ iprop(∃ f, ℓ ↦{fullShare} f) := by
  rw [← many_univ _ l hl hm]
  haveI : Nonempty (Buf (Elt F) ℓ) := ⟨f₀⟩
  refine (BI.bigSep_exists_pi Finset.univ _).trans ?_
  iintro ⟨%fs, H⟩
  ihave H' := (pointsTo_biUnion_join (Finset.univ : Finset T) (q := fullShare) S fs f₀ fun a _ b _ h => hd a b h) $$ H
  icases H' with ⟨%g, -, H⟩
  iexists g
  iapply (Entails.of_eq (by rw [hu])) $$ H

/-! ## The scratch arrays -/

theorem mem_slot {N m n k : ℕ} {p : ∀ i, (![k, 0, 0] : Fin 3 → ℕ) i + (![1, m, n] : Fin 3 → ℕ) i ≤ (Shape.mk 3 ![N, m, n]).size i}
    (i : (Shape.mk 3 ![N, m, n]).Idx) : i ∈ (Rect.unit (s := Shape.mk 3 ![N, m, n]) ![k, 0, 0] ![1, m, n] p).set ↔ (i 0).val = k := by
  rw [Rect.mem_set_unit]
  constructor
  · intro h
    have h0 : k ≤ (i 0).val ∧ (i 0).val < k + 1 := h 0
    omega
  · intro e a
    match a with
    | 0 => show k ≤ (i 0).val ∧ (i 0).val < k + 1; omega
    | 1 => exact ⟨Nat.zero_le _, (Nat.zero_add m).symm ▸ (i 1).isLt⟩
    | 2 => exact ⟨Nat.zero_le _, (Nat.zero_add n).symm ▸ (i 2).isLt⟩
theorem slots_disjoint {N m n : ℕ} (p : ∀ k : Fin N, ∀ i, (![k.val, 0, 0] : Fin 3 → ℕ) i + (![1, m, n] : Fin 3 → ℕ) i ≤ (Shape.mk 3 ![N, m, n]).size i)
    (a b : Fin N) (h : a ≠ b) : Disjoint (Rect.unit (s := Shape.mk 3 ![N, m, n]) ![a.val, 0, 0] ![1, m, n] (p a)).set
      (Rect.unit (s := Shape.mk 3 ![N, m, n]) ![b.val, 0, 0] ![1, m, n] (p b)).set :=
  Finset.disjoint_left.mpr fun i hi hj => h (Fin.ext (((mem_slot i).mp hi).symm.trans ((mem_slot i).mp hj)))
theorem slots_union {N m n : ℕ} (p : ∀ k : Fin N, ∀ i, (![k.val, 0, 0] : Fin 3 → ℕ) i + (![1, m, n] : Fin 3 → ℕ) i ≤ (Shape.mk 3 ![N, m, n]).size i) :
    (Finset.univ.biUnion fun k : Fin N => (Rect.unit (s := Shape.mk 3 ![N, m, n]) ![k.val, 0, 0] ![1, m, n] (p k)).set) = Finset.univ := by
  ext i
  simp only [Finset.mem_biUnion, Finset.mem_univ, true_and, iff_true]
  exact ⟨i 0, (mem_slot i).mpr rfl⟩

theorem slot_set_a (k : Fin 4) : (aS k).view.set = (aR k).set := by
  rw [← Rect.map_emb_univ]; exact (View.set_reshape _ _).trans rfl
theorem slot_set_b (k : Fin 8) : (bS k).view.set = (bR k).set := by
  rw [← Rect.map_emb_univ]; exact (View.set_reshape _ _).trans rfl
theorem slot_set_c (k : Fin 6) : (cS k).view.set = (cR k).set := by
  rw [← Rect.map_emb_univ]; exact (View.set_reshape _ _).trans rfl

/-- The 18 slots are those of the three scratch arrays. -/
theorem slots_eq (c : Dev nD) : many (fun k => slotH (F := F) k c) (List.finRange 18)
    = (iprop(many (fun k => iprop(∃ f, aM.view.loc (c : Thread nD τ) ↦[(aR k).set]{fullShare} f)) (List.finRange 4)
      ∗ many (fun k => iprop(∃ f, bM.view.loc (c : Thread nD τ) ↦[(bR k).set]{fullShare} f)) (List.finRange 8)
      ∗ many (fun k => iprop(∃ f, cM.view.loc (c : Thread nD τ) ↦[(cR k).set]{fullShare} f)) (List.finRange 6)) : sProp 𝕄) := by
  rw [show List.finRange 18 = (List.finRange 4).map (fun k => (⟨k.val, by omega⟩ : Fin 18))
      ++ ((List.finRange 8).map (fun k => (⟨4 + k.val, by omega⟩ : Fin 18)) ++ (List.finRange 6).map (fun k => (⟨12 + k.val, by omega⟩ : Fin 18)))
      from by decide, many_append, many_append, many_map, many_map, many_map]
  refine congrArg₂ (fun P Q : sProp 𝕄 => iprop(P ∗ Q)) (many_congr fun k _ => ?_) (congrArg₂ (fun P Q : sProp 𝕄 => iprop(P ∗ Q)) (many_congr fun k _ => ?_) (many_congr fun k _ => ?_))
  · unfold slotH; rw [dif_pos (show k.val < 4 from k.isLt)]; unfold slotPts; rw [slot_set_a]
  · unfold slotH; rw [dif_neg (show ¬ 4 + k.val < 4 by omega), dif_pos (show 4 + k.val < 12 by omega)]
    rw [show (⟨(⟨4 + k.val, by omega⟩ : Fin 18).val - 4, by dsimp only; omega⟩ : Fin 8) = k from Fin.ext (by dsimp only; omega)]
    unfold slotPts; rw [slot_set_b]
  · unfold slotH; rw [dif_neg (show ¬ 12 + k.val < 4 by omega), dif_neg (show ¬ 12 + k.val < 12 by omega)]
    rw [show (⟨(⟨12 + k.val, by omega⟩ : Fin 18).val - 12, by dsimp only; omega⟩ : Fin 6) = k from Fin.ext (by dsimp only; omega)]
    unfold slotPts; rw [slot_set_c]

/-- The three scratch arrays. -/
def scratch (c : Dev nD) : sProp 𝕄 :=
  iprop((∃ f, aM.view.loc (c : Thread nD τ) ↦{fullShare} f) ∗ (∃ f, bM.view.loc (c : Thread nD τ) ↦{fullShare} f)
    ∗ (∃ f, cM.view.loc (c : Thread nD τ) ↦{fullShare} f))
theorem scratch_split (c : Dev nD) : scratch c ⊢ (many (fun k => slotH (F := F) k c) (List.finRange 18) : sProp 𝕄) := by
  rw [slots_eq]; unfold scratch
  exact BI.sep_mono (parts_split _ (List.nodup_finRange 4) List.mem_finRange _ (slots_disjoint a_inb) (slots_union a_inb))
    (BI.sep_mono (parts_split _ (List.nodup_finRange 8) List.mem_finRange _ (slots_disjoint b_inb) (slots_union b_inb))
      (parts_split _ (List.nodup_finRange 6) List.mem_finRange _ (slots_disjoint cc_inb) (slots_union cc_inb)))
theorem scratch_join (w : F .f32) (c : Dev nD) : (many (fun k => slotH (F := F) k c) (List.finRange 18) : sProp 𝕄) ⊢ scratch c := by
  rw [slots_eq]; unfold scratch
  exact BI.sep_mono (parts_join _ (List.nodup_finRange 4) List.mem_finRange (fun _ => w) _ (slots_disjoint a_inb) (slots_union a_inb))
    (BI.sep_mono (parts_join _ (List.nodup_finRange 8) List.mem_finRange (fun _ => w) _ (slots_disjoint b_inb) (slots_union b_inb))
      (parts_join _ (List.nodup_finRange 6) List.mem_finRange (fun _ => w) _ (slots_disjoint cc_inb) (slots_union cc_inb)))

/-! ## The result array -/

theorem pairs_nodup : pairs.Nodup := by decide +kernel
theorem pairs_all : ∀ p, p ∈ pairs := by decide +kernel
theorem pairs_shift : ∀ q g : Fin 4, (pairs.map fun p => (p.1, q + p.2.1, g + p.2.2)).Perm pairs := by decide +kernel
theorem many_pairs (Φ : Fin 2 × Fin 4 × Fin 4 → sProp 𝕄) (q g : Fin 4) : many (fun p => Φ (p.1, q + p.2.1, g + p.2.2)) pairs = many Φ pairs := by
  exact (many_map Φ (fun p => (p.1, q + p.2.1, g + p.2.2)) pairs).symm.trans (many_perm Φ (pairs_shift q g))
theorem chunks_disjoint (p p' : Fin 2 × Fin 4 × Fin 4) (h : p ≠ p') : Disjoint (chR p.1 p.2.1 p.2.2).set (chR p'.1 p'.2.1 p'.2.2).set :=
  ch_disjoint _ _ _ _ _ _ h
theorem chunks_union : (Finset.univ.biUnion fun p : Fin 2 × Fin 4 × Fin 4 => (chR p.1 p.2.1 p.2.2).set) = Finset.univ := by
  ext i
  simp only [Finset.mem_biUnion, Finset.mem_univ, true_and, iff_true, mem_ch]
  have h0 : (i 0).val < 1024 := (i 0).isLt
  have h1 : (i 1).val < 1024 := (i 1).isLt
  exact ⟨(⟨(i 1).val / 512, by omega⟩, ⟨(i 0).val / 256, by omega⟩, ⟨(i 0).val % 256 / 64, by omega⟩), by dsimp only; omega⟩

section
variable (X R : Dev nD → Vec F S1024x1024 .f32) (G : Dev nD → Vec F S1x1024 .f32) (c : Dev nD)

theorem result_split : (iprop(∃ f, oLoc c ↦{fullShare} f) : sProp 𝕄) ⊢ many (hold X R G c) (pairs.map fun p => .any ⟨0, 0, p.1, p.2.1, p.2.2⟩) := by
  rw [many_map, many_congr fun p _ => hold_own c p.1 p.2.1 p.2.2,
    many_pairs (fun p => iprop(∃ f, chPts c p.1 p.2.1 p.2.2 fullShare f)) (qd c) (gd c)]
  exact parts_split pairs pairs_nodup pairs_all _ chunks_disjoint chunks_union

theorem final_shares (d : Fin 2) (a b ja jb : Fin 4) (f : Vec F S1024x1024 .f32) :
    many (fun s => chPts c d a b (shr s) f) (finalShares d ja jb) = (chPts c d a b fullShare f : sProp 𝕄) := by
  have h2 (q : PosShare TreeShare) : (chPts c d a b q f : sProp 𝕄) = iprop(chPts c d a b q.left f ∗ chPts c d a b q.right f) :=
    equiv_iff.mp ⟨(pointsTo_share (PosShare.mem_left_op_right q)).1, (pointsTo_share (PosShare.mem_left_op_right q)).2⟩
  unfold finalShares
  split
  · split
    · simp only [many, sep_emp_eq]; rw [h2 fullShare, h2 fullShare.right]; rfl
    · simp only [many, sep_emp_eq]; rw [h2 fullShare]; rfl
  · rw [many_one]; rfl

theorem result_join : many (hold X R G c) (pairs.flatMap fun p => (finalShares p.1 p.2.1 p.2.2).map (.out p.1 p.2.1 p.2.2))
    ⊢ (oLoc c ↦{fullShare} total X R G : sProp 𝕄) := by
  rw [many_flatMap, many_congr fun p _ => (many_map _ _ _).trans (final_shares c p.1 (qd c + p.2.1) (gd c + p.2.2) p.2.1 p.2.2 (total X R G)),
    many_pairs (fun p => chPts c p.1 p.2.1 p.2.2 fullShare (total X R G)) (qd c) (gd c), ← many_univ _ _ pairs_nodup pairs_all]
  unfold chPts
  rw [← pointsTo_biUnion _ _ fun p _ p' _ h => chunks_disjoint p p' h, chunks_union]

/-! ## The operand -/

theorem operand_eq : (xLoc c ↦{fullShare} X c : sProp 𝕄) = iprop((xLoc c ↦{fullShare.left} X c)
    ∗ ((xLoc c ↦[(quR 0 (qd c + xQ 0)).set]{xShr 0} X c) ∗ (xLoc c ↦[Finset.univ \ (quR 0 (qd c + xQ 0)).set]{xShr 0} X c))
    ∗ ((xLoc c ↦[(quR 1 (qd c + xQ 1)).set]{xShr 1} X c) ∗ (xLoc c ↦[Finset.univ \ (quR 1 (qd c + xQ 1)).set]{xShr 1} X c))) := by
  have h2 (q : PosShare TreeShare) : (xLoc c ↦{q} X c : sProp 𝕄) = iprop((xLoc c ↦{q.left} X c) ∗ (xLoc c ↦{q.right} X c)) :=
    equiv_iff.mp ⟨(pointsTo_share (PosShare.mem_left_op_right q)).1, (pointsTo_share (PosShare.mem_left_op_right q)).2⟩
  have h3 (q : PosShare TreeShare) (I : Finset S1024x1024.Idx) :
      (xLoc c ↦{q} X c : sProp 𝕄) = iprop((xLoc c ↦[I]{q} X c) ∗ (xLoc c ↦[Finset.univ \ I]{q} X c)) :=
    equiv_iff.mp ⟨(pointsTo_split_subset (Finset.subset_univ I)).1, (pointsTo_split_subset (Finset.subset_univ I)).2⟩
  rw [← h3, ← h3, h2 fullShare, h2 fullShare.right]; rfl

/-! ## The two ends -/

theorem slots_hold : many (hold X R G c) ((List.finRange 18).map (.slot 0 0)) = many (fun k => slotH k c) (List.finRange 18) := by
  rw [many_map]
  exact many_congr fun k _ => (hold_slot (X := X) (R := R) (G := G) c 0 0 k).trans (congrArg (slotH k) (mv_zero c))
/-- The three operands, whole. -/
def operands : sProp 𝕄 :=
  iprop((xLoc c ↦{fullShare} X c) ∗ (rM.view.loc (c : Thread nD τ) ↦{fullShare} R c) ∗ (gM.view.loc (c : Thread nD τ) ↦{fullShare} G c))

theorem start_holds : iprop((∃ f, oLoc c ↦{fullShare} f) ∗ scratch c ∗ operands X R G c) ⊢ iprop(static X R G c ∗ many (hold X R G c) first) := by
  unfold operands first
  rw [operand_eq, many_append, many_append, slots_hold, many_cons, many_one, hold_opnd, hold_opnd]
  unfold static
  iintro ⟨Ho, Hs, ⟨Hx, ⟨Hx0, Hy0⟩, ⟨Hx1, Hy1⟩⟩, Hr, Hg⟩
  isplitl [Hx Hy0 Hy1 Hr Hg]
  · isplitl [Hx]; · iexact Hx
    isplitl [Hy0]; · iexact Hy0
    isplitl [Hy1]; · iexact Hy1
    isplitl [Hr]; · iexact Hr
    iexact Hg
  isplitl [Ho Hs]
  · isplitl [Ho]; · iapply (result_split X R G c) $$ Ho
    iapply (scratch_split c) $$ Hs
  isplitl [Hx0]; · iexact Hx0
  iexact Hx1

theorem finish_holds (w : F .f32) : iprop(static X R G c ∗ many (hold X R G c) last) ⊢ iprop((oLoc c ↦{fullShare} total X R G) ∗ scratch c
    ∗ operands X R G c ∗ semVal (barCell c) 0 ∗ many (fun k => semVal (sendCell c k) 0) (List.finRange 48)
    ∗ many (fun k => semVal (recvCell c k) 0) (List.finRange 48)) := by
  unfold operands last
  rw [operand_eq, many_append, many_append, many_append, many_append, slots_hold, many_cons, many_one, many_cons, many_map, many_map, hold_opnd, hold_opnd]
  unfold static
  iintro ⟨⟨Hx, Hy0, Hy1, Hr, Hg⟩, ⟨⟨Ho, Hs⟩, Hx0, Hx1⟩, ⟨Hb, Hsz⟩, Hrz⟩
  isplitl [Ho]; · iapply (result_join X R G c) $$ Ho
  isplitl [Hs]; · iapply (scratch_join w c) $$ Hs
  isplitl [Hx Hy0 Hy1 Hr Hg Hx0 Hx1]
  · isplitl [Hx Hy0 Hy1 Hx0 Hx1]
    · isplitl [Hx]; · iexact Hx
      isplitl [Hx0 Hy0]
      · isplitl [Hx0]; · iexact Hx0
        iexact Hy0
      isplitl [Hx1]; · iexact Hx1
      iexact Hy1
    isplitl [Hr]; · iexact Hr
    iexact Hg
  isplitl [Hb]; · iapply (Entails.of_eq (hold_barZ (X := X) (R := R) (G := G) c)) $$ Hb
  isplitl [Hsz]; · iapply (Entails.of_eq (many_congr fun k _ => hold_sentZ (X := X) (R := R) (G := G) c k)) $$ Hsz
  iapply (Entails.of_eq (many_congr fun k _ => hold_recvZ (X := X) (R := R) (G := G) c k)) $$ Hrz

/-- After the last action what is held is the listed end. -/
theorem St_end (K : Dev nD × Fin 97 → ℕ) :
    St X R G K c [] ⊢ iprop(owing c [] ∗ static X R G c ∗ many (hold X R G c) last) := by
  unfold St
  iintro ⟨-, -, Ho, Hs, ⟨%H, %hgo, HH⟩⟩
  isplitl [Ho]; · iexact Ho
  isplitl [Hs]; · iexact Hs
  iapply (Entails.of_eq (many_perm (hold X R G c) (List.isPerm_iff.mp hgo))) $$ HH
theorem St_begin (K : Dev nD × Fin 97 → ℕ) :
    iprop(recs X R G K ∗ many (ghost c) (tail 0) ∗ owing c (tail 0) ∗ static X R G c ∗ many (hold X R G c) first) ⊢ St X R G K c (tail 0) := by
  unfold St
  iintro ⟨HK, Hg, Ho, Hs, HH⟩
  isplitl [HK]; · iexact HK
  isplitl [Hg]; · iexact Hg
  isplitl [Ho]; · iexact Ho
  isplitl [Hs]; · iexact Hs
  iexists first
  isplitr; · ipureintro; exact go_first
  iexact HH
end

end Cert.Plan

end

end
-- ==== Proof.Deal.lean ====
/-
  How the launch deals out what the device programs start with: the positions at the counters, the tokens of the
  signals and transfers each device pays for, and the credits for what the others owe it.
-/
module

public import proofs.«01_k».proof.Proof.Ends

@[expose] public section

noncomputable section

namespace Cert.Plan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The counters of a device -/

theorem bar_eq_iff {a b : Dev nD} : barCell a = barCell b ↔ a = b :=
  ⟨fun h => Fin.ext (congrArg (fun g : GSem nD τ sig => g.1.1.val) h), fun h => h ▸ rfl⟩
theorem recv_eq_iff {a b : Dev nD} {k l : Fin 48} : recvCell a k = recvCell b l ↔ a = b ∧ k = l := by
  refine ⟨fun h => ⟨Fin.ext (congrArg (fun g : GSem nD τ sig => g.1.1.val) h), ?_⟩, fun h => by rw [h.1, h.2]⟩
  have := congrArg (fun s : SemLoc sig => match s with | .dma j => j.val | .reg _ => 0) (congrArg Prod.snd h)
  have : 52 + k.val = 52 + l.val := this
  exact Fin.ext (by omega)
theorem recv_ne_bar (a b : Dev nD) (k : Fin 48) : recvCell a k ≠ barCell b := fun h => by cases congrArg Prod.snd h

theorem csem_injective : Function.Injective csem := by
  intro i j h
  unfold csem at h
  have hi := i.isLt; have hj := j.isLt
  split at h <;> split at h
  · have := congrArg (fun s : SemLoc sig => match s with | .dma j => j.val | .reg _ => 0) h
    have : 4 + i.val = 4 + j.val := this
    exact Fin.ext (by omega)
  · cases h
  · cases h
  · exact Fin.ext (by omega)
theorem kcell_injective : Function.Injective (kcell : Dev nD × Fin 97 → GSem nD τ sig) := by
  rintro ⟨c, k⟩ ⟨c', k'⟩ h
  exact Prod.ext (Fin.ext (congrArg (fun g : GSem nD τ sig => g.1.1.val) h)) (csem_injective (congrArg Prod.snd h))
def ringCells : Finset (GSem nD τ sig) := Finset.univ.map ⟨kcell, kcell_injective⟩

/-- All of a device's counters: the entry one, those of its sends, those of its receives. -/
theorem all_cells (Φ : Fin 97 → sProp 𝕄) : bigSep Finset.univ Φ
    = iprop(Φ iBar ∗ many (fun k => Φ (iSend k)) (List.finRange 48) ∗ many (fun k => Φ (iRecv k)) (List.finRange 48)) := by
  rw [many_univ Φ (iBar :: ((List.finRange 48).map iSend ++ (List.finRange 48).map iRecv)) (by decide +kernel) (by decide +kernel),
    many_cons, many_append, many_map, many_map]
theorem own_cells (Φ : Fin 96 → sProp 𝕄) : bigSep Finset.univ Φ
    = iprop(many (fun k : Fin 48 => Φ ⟨k.val, by omega⟩) (List.finRange 48) ∗ many (fun k : Fin 48 => Φ ⟨48 + k.val, by omega⟩) (List.finRange 48)) := by
  rw [many_univ Φ ((List.finRange 48).map (fun k : Fin 48 => (⟨k.val, by omega⟩ : Fin 96)) ++ (List.finRange 48).map (fun k : Fin 48 => (⟨48 + k.val, by omega⟩ : Fin 96)))
    (by decide +kernel) (by decide +kernel), many_append, many_map, many_map]
theorem kcell_send (c : Dev nD) (k : Fin 48) : kcell (c, iSend k) = sendCell c k := congrArg (Prod.mk _) (csem_send k)
theorem kcell_recv (c : Dev nD) (k : Fin 48) : kcell (c, iRecv k) = recvCell c k := congrArg (Prod.mk _) (csem_recv k)
theorem cells_eq (Φ : GSem nD τ sig → sProp 𝕄) (c : Dev nD) : bigSep Finset.univ (fun k : Fin 97 => Φ (kcell (c, k)))
    = iprop(Φ (barCell c) ∗ many (fun k => Φ (sendCell c k)) (List.finRange 48) ∗ many (fun k => Φ (recvCell c k)) (List.finRange 48)) := by
  rw [all_cells fun k => Φ (kcell (c, k))]
  simp only [kcell_send, kcell_recv]; rfl

/-! ## The tokens -/

/-- The duties of a device's own counters. -/
def tokOf (x : Dev nD × (Fin 5 ⊕ Fin 48 ⊕ Fin 48)) : GSem nD τ sig × ℕ × Fin 5 := match x.2 with
  | .inl i => (kcell (x.1, iBar), 0, i) | .inr (.inl k) => (kcell (x.1, iSend k), 0, 0) | .inr (.inr k) => (kcell (x.1, iRecv k), 0, 0)
theorem iSend_inj {k l : Fin 48} (h : iSend k = iSend l) : k = l := by
  have : k.val = l.val := congrArg (fun x : Fin 97 => x.val) h
  exact Fin.ext this
theorem iRecv_inj {k l : Fin 48} (h : iRecv k = iRecv l) : k = l := Fin.ext (by have : 48 + k.val = 48 + l.val := congrArg Fin.val h; omega)
theorem send_not_recv {k l : Fin 48} (h : iSend k = iRecv l) : False := by have : k.val = 48 + l.val := congrArg Fin.val h; omega
theorem send_not_bar {k : Fin 48} (h : iSend k = iBar) : False := by have : k.val = 96 := congrArg Fin.val h; omega
theorem recv_not_bar {k : Fin 48} (h : iRecv k = iBar) : False := by have : 48 + k.val = 96 := congrArg Fin.val h; omega
theorem tokOf_injective : Function.Injective tokOf := by
  rintro ⟨c, x⟩ ⟨c', y⟩ h
  have cell {i j : Fin 97} {c c' : Dev nD} (h : kcell (c, i) = kcell (c', j)) : c = c' ∧ i = j := Prod.ext_iff.mp (kcell_injective h)
  rcases x with i | k | k <;> rcases y with j | l | l <;> obtain ⟨h1, h2⟩ := cell (congrArg Prod.fst h) <;> dsimp only at h1
  · subst h1; exact congrArg (fun j => (c, Sum.inl j)) (congrArg (fun x : GSem nD τ sig × ℕ × Fin 5 => x.2.2) h)
  · exact (send_not_bar h2.symm).elim
  · exact (recv_not_bar h2.symm).elim
  · exact (send_not_bar h2).elim
  · subst h1; rw [iSend_inj h2]
  · exact (send_not_recv h2).elim
  · exact (recv_not_bar h2).elim
  · exact (send_not_recv h2.symm).elim
  · subst h1; rw [iRecv_inj h2]
def ringToks : Finset (GSem nD τ sig × ℕ × Fin 5) := Finset.univ.map ⟨tokOf, tokOf_injective⟩

/-- The tokens of the duties of device `c`'s own counters, -/
def toks (c : Dev nD) : sProp 𝕄 :=
  iprop(many (fun i => dutyTok ER (barCell c) 0 i) (List.finRange 5) ∗ many (fun k => dutyTok ER (sendCell c k) 0 0) (List.finRange 48)
    ∗ many (fun k => dutyTok ER (recvCell c k) 0 0) (List.finRange 48))
/-- and of the duties it pays. -/
def payToks (c : Dev nD) : sProp 𝕄 :=
  iprop(many (fun i => dutyTok ER (barCell (nb i c)) 0 i) (List.finRange 5) ∗ many (fun k => dutyTok ER (sendCell c k) 0 0) (List.finRange 48)
    ∗ many (fun k => dutyTok ER (recvCell (tgt k c) k) 0 0) (List.finRange 48))

theorem toks_eq (c : Dev nD) : bigSep Finset.univ (fun x : Fin 5 ⊕ Fin 48 ⊕ Fin 48 => (dutyTok ER (tokOf (c, x)).1 (tokOf (c, x)).2.1 (tokOf (c, x)).2.2 : sProp 𝕄)) = toks c := by
  rw [bigSep_univ_sum, bigSep_univ_sum, many_univ _ _ (List.nodup_finRange 5) List.mem_finRange, many_univ _ _ (List.nodup_finRange 48) List.mem_finRange,
    many_univ _ _ (List.nodup_finRange 48) List.mem_finRange]
  unfold toks tokOf
  simp only [kcell_send, kcell_recv]; rfl

theorem bigSep_many {α : Type} (Φ : Dev nD → α → sProp 𝕄) : ∀ l : List α,
    bigSep Finset.univ (fun c => many (Φ c) l) = many (fun a => bigSep Finset.univ fun c => Φ c a) l
  | [] => bigSep_emp_const _
  | a :: l => by simp only [many_cons]; rw [bigSep_sep', bigSep_many Φ l]

/-- Every token goes to the device that pays the duty. -/
theorem toks_around : (bigSep Finset.univ fun c : Dev nD => (toks c : sProp 𝕄)) = bigSep Finset.univ fun c : Dev nD => payToks c := by
  unfold toks payToks
  simp only [bigSep_sep', bigSep_many]
  refine congrArg₂ (fun P Q : sProp 𝕄 => iprop(P ∗ Q)) (many_congr fun i _ => ?_) (congrArg₂ (fun P Q : sProp 𝕄 => iprop(P ∗ Q)) rfl (many_congr fun k _ => ?_))
  · exact bigSep_univ_equiv (⟨nb i, nbInv i, nbInv_nb i, nb_nbInv i⟩ : Dev nD ≃ Dev nD) fun c => (dutyTok ER (barCell c) 0 i : sProp 𝕄)
  · exact bigSep_univ_equiv (⟨tgt k, src k, src_tgt k, tgt_src k⟩ : Dev nD ≃ Dev nD) fun c => (dutyTok ER (recvCell c k) 0 0 : sProp 𝕄)

/-! ## The credits -/

/-- What one action pays. -/
def dueOf (c : Dev nD) : Act → CellTallies nD τ sig Unit
  | .sig i => tallyAt (barCell (nb i c)) () 1
  | .send k => tallyAt (recvCell (tgt k c) k) () (amt k)
  | _ => 0
theorem due_sum (c : Dev nD) : ∀ l : List Act, due c l = (l.map (dueOf c)).sum
  | [] => rfl
  | a :: l => by
    rw [List.map_cons, List.sum_cons, add_comm, ← due_sum c l]
    cases a <;> first | rfl | exact (add_zero _).symm
theorem due_all (c : Dev nD) : due c (tail 0) = (∑ i : Fin 5, tallyAt (barCell (nb i c)) () 1) + ∑ k : Fin 48, tallyAt (recvCell (tgt k c) k) () (amt k) := by
  rw [due_sum, show (tail 0).map (dueOf c) = acts.map (dueOf c) from rfl, ((List.isPerm_iff.mp acts_sorted).map (dueOf c)).sum_eq]
  unfold sorted
  simp only [List.map_append, List.sum_append, List.map_map, List.map_cons, List.map_nil, List.sum_cons, List.sum_nil]
  rw [Fin.sum_univ_def, Fin.sum_univ_def]
  have z {α : Type} (f : α → Act) (hf : ∀ a, dueOf c (f a) = 0) (l : List α) : (l.map (dueOf c ∘ f)).sum = 0 := by
    induction l with
    | nil => rfl
    | cons a l ih => rw [List.map_cons, List.sum_cons, ih, Function.comp_apply, hf, add_zero]
  rw [z Act.recv fun _ => rfl, z Act.acc fun _ => rfl, z Act.swait fun _ => rfl]
  simp only [show dueOf c .bar = 0 from rfl, show dueOf c .norm = 0 from rfl, add_zero]
  rfl

theorem launch_bar (c : Dev nD) :
    tallyOn (barCell c) (launchCredit (Pipeline.owing fun d => due d (tail 0)) 0 (barCell c)) = (tallyAt (barCell c) () 5 : CellTallies nD τ sig Unit) := by
  unfold tallyAt; refine congrArg _ (Finsupp.ext fun u => ?_); cases u
  rw [Pipeline.launchCredit_owing, Finsupp.single_eq_same]
  have one (i : Fin 5) : ∑ d : Dev nD, (tallyAt (barCell (nb i d)) () 1 : CellTallies nD τ sig Unit) (barCell c) () = 1 := by
    rw [Finset.sum_eq_single (nbInv i c)]
    · rw [tallyAt_apply, nb_nbInv, if_pos ⟨rfl, rfl⟩]
    · intro d _ hd
      rw [tallyAt_apply, if_neg fun h => hd (by rw [← nbInv_nb i d, ← bar_eq_iff.mp h.1])]
    · exact fun h => absurd (Finset.mem_univ _) h
  have none (d : Dev nD) (k : Fin 48) : (tallyAt (recvCell (tgt k d) k) () (amt k) : CellTallies nD τ sig Unit) (barCell c) () = 0 := by
    rw [tallyAt_apply, if_neg fun h => recv_ne_bar _ _ _ h.1.symm]
  simp only [due_all, Pi.add_apply, Finsupp.add_apply, Finset.sum_apply, Finsupp.finset_sum_apply, none, Finset.sum_const_zero, add_zero]
  rw [Finset.sum_comm, Finset.sum_congr rfl fun i _ => one i]; rfl
theorem launch_recv (c : Dev nD) (k : Fin 48) :
    tallyOn (recvCell c k) (launchCredit (Pipeline.owing fun d => due d (tail 0)) 0 (recvCell c k)) = (tallyAt (recvCell c k) () (amt k) : CellTallies nD τ sig Unit) := by
  unfold tallyAt; refine congrArg _ (Finsupp.ext fun u => ?_); cases u
  rw [Pipeline.launchCredit_owing, Finsupp.single_eq_same]
  have one : ∑ d : Dev nD, (tallyAt (recvCell (tgt k d) k) () (amt k) : CellTallies nD τ sig Unit) (recvCell c k) () = amt k := by
    rw [Finset.sum_eq_single (src k c)]
    · rw [tallyAt_apply, tgt_src, if_pos ⟨rfl, rfl⟩]
    · intro d _ hd
      rw [tallyAt_apply, if_neg fun h => hd (by rw [← src_tgt k d, ← (recv_eq_iff.mp h.1).1])]
    · exact fun h => absurd (Finset.mem_univ _) h
  have none (d : Dev nD) (i : Fin 5) : (tallyAt (barCell (nb i d)) () 1 : CellTallies nD τ sig Unit) (recvCell c k) () = 0 := by
    rw [tallyAt_apply, if_neg fun h => recv_ne_bar _ _ _ h.1]
  simp only [due_all, Pi.add_apply, Finsupp.add_apply, Finset.sum_apply, Finsupp.finset_sum_apply, none, Finset.sum_const_zero, zero_add]
  rw [Finset.sum_comm, Finset.sum_eq_single k]
  · exact one
  · intro l _ hl
    exact Finset.sum_eq_zero fun d _ => by rw [tallyAt_apply, if_neg fun h => hl (recv_eq_iff.mp h.1).2.symm]
  · exact fun h => absurd (Finset.mem_univ _) h

/-- The credits device `c` waits with. -/
def creds (c : Dev nD) : sProp 𝕄 :=
  iprop(cred (tallyAt (barCell c) () 5) ∗ many (fun k => cred (tallyAt (recvCell c k) () (amt k))) (List.finRange 48))
theorem creds_intro (c : Dev nD) : (Pipeline.launchCred (fun d => due d (tail 0)) c : sProp 𝕄) ⊢ creds c := by
  unfold Pipeline.launchCred
  refine (bigSep_subset (Finset.subset_univ ((Finset.univ : Finset (Fin 97)).map ⟨csem, csem_injective⟩))).trans ?_
  rw [bigSep_map]
  refine (Entails.of_eq (cells_eq (fun g => cred (tallyOn g (launchCredit (Pipeline.owing fun d => due d (tail 0)) 0 g))) c)).trans ?_
  rw [launch_bar, many_congr fun k _ => congrArg cred (launch_recv c k)]
  unfold creds
  iintro ⟨Hb, -, Hr⟩
  isplitl [Hb]; · iexact Hb
  iexact Hr

/-! ## All of it, in the order of the actions -/

/-- A device's positions at its counters. -/
def places (c : Dev nD) : sProp 𝕄 :=
  iprop(atPos ER (barCell c) 0 ∅ 0 ∗ many (fun k => atPos ER (sendCell c k) 0 ∅ 0) (List.finRange 48)
    ∗ many (fun k => atPos ER (recvCell c k) 0 ∅ 0) (List.finRange 48))

theorem many_sep {α : Type} (Φ Ψ : α → sProp 𝕄) (l : List α) : many (fun a => iprop(Φ a ∗ Ψ a)) l = iprop(many Φ l ∗ many Ψ l) := by
  induction l with
  | nil => exact (emp_sep_eq _).symm
  | cons a l ih => rw [many_cons, many_cons, many_cons, ih, sep_assoc_eq, sep_assoc_eq, ← sep_assoc_eq (Ψ a), sep_comm_eq (Ψ a), sep_assoc_eq]
theorem many_emp {α : Type} (l : List α) : many (fun _ => (iprop(emp) : sProp 𝕄)) l = iprop(emp) := by
  induction l with
  | nil => rfl
  | cons a l ih => rw [many_cons, ih, sep_emp_eq]

theorem ghost_intro (c : Dev nD) : iprop(payToks c ∗ places c ∗ creds c) ⊢ (many (ghost c) (tail 0) : sProp 𝕄) := by
  rw [show many (ghost c) (tail 0) = many (ghost (F := F) c) acts from rfl, many_perm (ghost c) (List.isPerm_iff.mp acts_sorted)]
  unfold sorted
  rw [many_append, many_append, many_append, many_append, many_append, many_append, many_map, many_map, many_map, many_map, many_map, many_one, many_one]
  unfold payToks places creds
  iintro ⟨⟨T1, T2, T3⟩, ⟨P1, P2, P3⟩, C1, C2⟩
  isplitr [P2]
  · isplitl
    · isplitl
      · isplitl [T1 T2 T3 P1 C1]
        · isplitl [T1 P1 C1]
          · isplitl [T1]; · iapply (show many (fun i => dutyTok ER (barCell (nb i c)) 0 i) (List.finRange 5) ⊢ many (fun i => ghost (F := F) c (.sig i)) (List.finRange 5) from BI.Entails.refl _) $$ T1
            iapply (show iprop(cred (tallyAt (barCell c) () 5) ∗ atPos ER (barCell c) 0 ∅ 0) ⊢ ghost (F := F) c .bar from BI.Entails.refl _)
            isplitl [C1]; · iexact C1
            iexact P1
          iapply (show iprop(many (fun k => dutyTok ER (sendCell c k) 0 0) (List.finRange 48) ∗ many (fun k => dutyTok ER (recvCell (tgt k c) k) 0 0) (List.finRange 48))
            ⊢ many (fun k => ghost (F := F) c (.send k)) (List.finRange 48) from Entails.of_eq (many_sep _ _ _).symm)
          isplitl [T2]; · iexact T2
          iexact T3
        iapply (show iprop(many (fun k => cred (tallyAt (recvCell c k) () (amt k))) (List.finRange 48) ∗ many (fun k => atPos ER (recvCell c k) 0 ∅ 0) (List.finRange 48))
          ⊢ many (fun k => ghost (F := F) c (.recv k)) (List.finRange 48) from Entails.of_eq (many_sep _ _ _).symm)
        isplitl [C2]; · iexact C2
        iexact P3
      iapply (show iprop(emp) ⊢ many (fun k => ghost (F := F) c (.acc k)) (List.finRange 18) from Entails.of_eq (many_emp _).symm)
      iempintro
    iapply (show iprop(emp) ⊢ ghost (F := F) c .norm from BI.Entails.refl _)
    iempintro
  iapply (show many (fun k => atPos ER (sendCell c k) 0 ∅ 0) (List.finRange 48) ⊢ many (fun k => ghost (F := F) c (.swait k)) (List.finRange 48) from BI.Entails.refl _) $$ P2

end Cert.Plan

end

end
-- ==== Proof.Tables.lean ====
/-
  The devices and the corners the program computes, in closed form.
-/
module

public import proofs.«01_k».proof.Proof.Sums

@[expose] public section

noncomputable section

namespace Cert.Plan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the program sends transfer `k`, -/
def devOf (c : Dev nD) (k : Fin 48) : ℕ := [
  k0_dev6 c, k0_dev8 c, k0_dev7 c, k0_dev9 c, k0_dev10 c, k0_dev13 c, k0_dev16 c, k0_dev20 c, k0_dev11 c, k0_dev15 c, k0_dev17 c,
  k0_dev21 c, k0_dev12 c, k0_dev18 c, k0_dev22 c, k0_dev14 c, k0_dev19 c, k0_dev23 c, k0_dev24 c, k0_dev30 c, k0_dev38 c,
  k0_dev26 c, k0_dev32 c, k0_dev40 c, k0_dev25 c, k0_dev28 c, k0_dev34 c, k0_dev31 c, k0_dev36 c, k0_dev42 c, k0_dev39 c,
  k0_dev44 c, k0_dev52 c, k0_dev46 c, k0_dev47 c, k0_dev48 c, k0_dev27 c, k0_dev29 c, k0_dev35 c, k0_dev33 c, k0_dev37 c,
  k0_dev43 c, k0_dev41 c, k0_dev45 c, k0_dev53 c, k0_dev49 c, k0_dev50 c, k0_dev51 c].getD k.val 0
/-- from which corner of an array, -/
def offOf (c : Dev nD) (k : Fin 48) : Fin 2 → ℕ := [
  k0_off1 c 0#32, k0_off1 c 1#32, k0_off2 c 0#32, k0_off2 c 1#32, k0_off5 c 0#32, k0_off5 c 1#32, k0_off5 c 2#32, k0_off5 c 3#32,
  k0_off6 c 0#32, k0_off6 c 1#32, k0_off6 c 2#32, k0_off6 c 3#32, k0_off8 c 0#32, k0_off8 c 1#32, k0_off8 c 2#32,
  k0_off10 c 0#32 2#32, k0_off10 c 1#32 2#32, k0_off10 c 2#32 2#32, k0_off13 c 0#32, k0_off13 c 1#32, k0_off13 c 2#32,
  k0_off10 c 1#32 0#32, k0_off10 c 1#32 1#32, k0_off10 c 1#32 2#32, k0_off14 c 0#32, k0_off14 c 1#32, k0_off14 c 2#32,
  k0_off16 c 0#32 1#32, k0_off16 c 1#32 1#32, k0_off16 c 2#32 1#32, k0_off16 c 0#32 2#32, k0_off16 c 1#32 2#32,
  k0_off16 c 2#32 2#32, k0_off13 c 3#32, k0_off13 c 3#32, k0_off13 c 3#32, k0_off15 c 0#32, k0_off15 c 1#32, k0_off15 c 2#32,
  k0_off17 c 0#32 1#32, k0_off17 c 1#32 1#32, k0_off17 c 2#32 1#32, k0_off17 c 0#32 2#32, k0_off17 c 1#32 2#32,
  k0_off17 c 2#32 2#32, k0_off10 c 1#32 3#32, k0_off10 c 1#32 3#32, k0_off10 c 1#32 3#32].getD k.val ![0, 0]
/-- and at which corner it makes the sum from landing slot `k`. -/
def sumOf (c : Dev nD) (k : Fin 18) : Fin 2 → ℕ := [
  k0_off3 c 0#32, k0_off3 c 1#32, k0_off4 c 0#32, k0_off4 c 1#32, k0_off7 c 0#32, k0_off7 c 1#32, k0_off7 c 2#32, k0_off7 c 3#32,
  k0_off9 c 2#32 0#32, k0_off9 c 2#32 1#32, k0_off9 c 2#32 2#32, k0_off9 c 2#32 3#32, k0_off11 c 0#32, k0_off11 c 1#32,
  k0_off11 c 2#32, k0_off9 c 0#32 3#32, k0_off9 c 1#32 3#32, k0_off9 c 2#32 3#32].getD k.val ![0, 0]

theorem sig_devs : ∀ (c : Dev nD) (i : Fin 5), [k0_dev1 c, k0_dev2 c, k0_dev3 c, k0_dev4 c, k0_dev5 c].getD i.val 0 = (nb i c).val := by decide +kernel
theorem send_devs : ∀ (c : Dev nD) (k : Fin 48), devOf c k = (tgt k c).val := by decide +kernel
theorem send_offs : ∀ (c : Dev nD) (k : Fin 48), offOf c k
    = if k.val < 4 then ![256 * (qd c + (ent k).ja).val, 512 * (ent k).d.val]
      else ![256 * (qd c + (ent k).ja).val + 64 * (gd c + (ent k).jb).val, 512 * (ent k).d.val] := by decide +kernel
theorem sum_offs : ∀ (c : Dev nD) (k : Fin 18), sumOf c k
    = if k.val < 4 then ![256 * (qd c + rja (lift18 k)).val, 512 * (ent (lift18 k)).d.val]
      else ![256 * (qd c + rja (lift18 k)).val + 64 * (gd c + rjb (lift18 k)).val, 512 * (ent (lift18 k)).d.val] := by decide +kernel
theorem norm_off : ∀ c : Dev nD, k0_off12 c = ![256 * (qd c + 1).val + 64 * (gd c + 1).val, 0] := by decide +kernel

variable (c : Dev nD)

/-- The neighbour a signal goes to, -/
theorem sig_dev (i : Fin 5) {n : ℕ} (h : n < nD) (e : n = [k0_dev1 c, k0_dev2 c, k0_dev3 c, k0_dev4 c, k0_dev5 c].getD i.val 0) : (⟨n, h⟩ : Dev nD) = nb i c :=
  Fin.ext (e.trans (sig_devs c i))
/-- and the device a transfer goes to. -/
theorem send_dev (k : Fin 48) {n : ℕ} (h : n < nD) (e : n = devOf c k) : (⟨n, h⟩ : Dev nD) = tgt k c := Fin.ext (e.trans (send_devs c k))

/-- The rectangle a transfer reads: a quarter of an array, -/
theorem send_quarter (m : Memref sig .tc .vmem S1024x1024 .f32) (k : Fin 48) (hk : k.val < 4) {off : Fin 2 → ℕ} {p} (hs) (e : off = offOf c k) :
    m.slice (Rect.unit (s := S1024x1024) off S256x512.size p) hs = m.slice (quR (ent k).d (qd c + (ent k).ja)) (fun _ => rfl) :=
  Memref.slice_unit_congr m (e.trans ((send_offs c k).trans (if_pos hk))) _ _ _ _
/-- or a chunk. -/
theorem send_chunk (k : Fin 48) (hk : 4 ≤ k.val) {off : Fin 2 → ℕ} {p} (hs) (e : off = offOf c k) :
    oM.slice (Rect.unit (s := S1024x1024) off S64x512.size p) hs
      = oM.slice (chR (ent k).d (qd c + (ent k).ja) (gd c + (ent k).jb)) (fun _ => rfl) :=
  Memref.slice_unit_congr oM (e.trans ((send_offs c k).trans (if_neg (by omega)))) _ _ _ _
/-- The corner of the quarter a device adds, -/
theorem sum_quarter (k : Fin 18) (hk : k.val < 4) {off : Fin 2 → ℕ} (e : off = sumOf c k) :
    off = ![256 * (qd c + rja (lift18 k)).val, 512 * (ent (lift18 k)).d.val] := e.trans ((sum_offs c k).trans (if_pos hk))
/-- or of the chunk. -/
theorem sum_chunk (k : Fin 18) (hk : 4 ≤ k.val) {off : Fin 2 → ℕ} (e : off = sumOf c k) :
    off = ![256 * (qd c + rja (lift18 k)).val + 64 * (gd c + rjb (lift18 k)).val, 512 * (ent (lift18 k)).d.val] :=
  e.trans ((sum_offs c k).trans (if_neg (by omega)))

end Cert.Plan

end

end
-- ==== Proof.Acts.lean ====
/-
  One action of the program at a time, the actions named by their place in the list.
-/
module

public import proofs.«01_k».proof.Proof.Tables

@[expose] public section

noncomputable section

namespace Cert.Plan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X R : Dev nD → Vec F S1024x1024 .f32} {G : Dev nD → Vec F S1x1024 .f32}
variable {K : Dev nD × Fin 97 → ℕ}
variable {α : Type} {Q : α → sProp (MT nD τ sig Unit (Elt F) ℕ UU ℕ)} (c : Dev nD)

/-- The actions from the `i`-th on begin with the `i`-th. -/
theorem tail_cons (i : ℕ) (a : Act) (h : acts[i]? = some a) : tail i = a :: tail (i + 1) := by
  obtain ⟨hi, e⟩ := List.getElem?_eq_some_iff.mp h
  unfold tail
  rw [List.drop_eq_getElem_cons hi, e]

/-- A signal to a neighbour. -/
theorem go_sig (j : ℕ) (i : Fin 5) {n : ℕ} {hlt : n < nD} {s : Sem sig} {z : ℤ}
    {kk : PUnit.{1} → Prog (TpuEff nD τ sig (Elt F) Λ₀ .tc) α} (h : St X R G K c (tail (j + 1)) ⊢ run c (kk ⟨⟩) Q)
    (e : acts[j]? = some (.sig i) := by exact rfl)
    (hn : n = [k0_dev1 c, k0_dev2 c, k0_dev3 c, k0_dev4 c, k0_dev5 c].getD i.val 0 := by exact rfl) (hs : s = barS := by exact rfl)
    (hz : z = ((1 : ℕ) : ℤ) := by exact rfl) :
    St X R G K c (tail j) ⊢ run c (.op (.semSignal ((⟨n, hlt⟩ : Dev nD) : Thread nD τ) s z) kk) Q := by
  rw [tail_cons j _ e]
  exact step_sig c i (sig_dev c i hlt hn) hs hz h

/-- The wait for the five neighbours. -/
theorem go_bar (j : ℕ) {s : Sem sig} {z : ℤ}
    {kk : PUnit.{1} → Prog (TpuEff nD τ sig (Elt F) Λ₀ .tc) α} (h : St X R G K c (tail (j + 1)) ⊢ run c (kk ⟨⟩) Q)
    (e : acts[j]? = some .bar := by exact rfl) (hs : s = barS := by exact rfl) (hz : z = ((5 : ℕ) : ℤ) := by exact rfl) :
    St X R G K c (tail j) ⊢ run c (.op (.semWait s z) kk) Q := by
  rw [tail_cons j _ e]
  exact step_bar c hs hz h

/-- The wait for a transfer to arrive. -/
theorem go_recv (j : ℕ) (k : Fin 48) {s : DmaSem sig} {sp sp' : Space} {s₁ s₂ : Shape} {e₁ e₂ : EltTy} {srcM : Memref sig .tc sp s₁ e₁} {κ' : Kind}
    {dstM : Memref sig κ' sp' s₂ e₂} {h₁ : srcM.view.WordExact} {h₂ : dstM.view.WordExact}
    {kk : PUnit.{1} → Prog (TpuEff nD τ sig (Elt F) Λ₀ .tc) α} (h : St X R G K c (tail (j + 1)) ⊢ run c (kk ⟨⟩) Q)
    (e : acts[j]? = some (.recv k) := by exact rfl)
    (hs : s = recvS k := by exact rfl) (ha : dstM.view.dmaCredit = amt k := by exact rfl) :
    St X R G K c (tail j) ⊢ run c (.op (.waitDma2 s srcM dstM h₁ h₂) kk) Q := by
  rw [tail_cons j _ e]
  exact step_recv c k hs ha h

/-- The wait for a transfer to have left. -/
theorem go_swait (j : ℕ) (k : Fin 48) {s : DmaSem sig} {sp sp' : Space} {s₁ s₂ : Shape} {e₁ e₂ : EltTy} {srcM : Memref sig .tc sp s₁ e₁} {κ' : Kind}
    {dstM : Memref sig κ' sp' s₂ e₂} {h₁ : srcM.view.WordExact} {h₂ : dstM.view.WordExact}
    {kk : PUnit.{1} → Prog (TpuEff nD τ sig (Elt F) Λ₀ .tc) α} (h : St X R G K c (tail (j + 1)) ⊢ run c (kk ⟨⟩) Q)
    (e : acts[j]? = some (.swait k) := by exact rfl)
    (hs : s = sendS k := by exact rfl) (ha : dstM.view.dmaCredit = amt k := by exact rfl) :
    St X R G K c (tail j) ⊢ run c (.op (.waitDma2 s srcM dstM h₁ h₂) kk) Q := by
  rw [tail_cons j _ e]
  exact step_swait c k hs ha h

/-- A quarter of the operand goes out. -/
theorem go_send_x (j : ℕ) (k : Fin 18) (M : Memref sig .tc .vmem S256x512 .f32) {n : ℕ} {hlt : n < nD} {dstM : Memref sig .tc .vmem S256x512 .f32} {sS sR : DmaSem sig}
    {off : Fin 2 → ℕ} {p : ∀ i, off i + S256x512.size i ≤ S1024x1024.size i} {hs₀ : ∀ i, (Rect.unit (s := S1024x1024) off S256x512.size p).stride i = 1}
    {hsc : dstM.view.ref.isScScratch = false} {h₁ : (xM.slice (Rect.unit (s := S1024x1024) off S256x512.size p) hs₀).view.WordExact} {h₂ : dstM.view.WordExact}
    {h₃ : DmaTarget.Typed .vmem (.dma sR) (.remote ((⟨n, hlt⟩ : Dev nD) : Thread nD τ) dstM (.dma sS) hsc)}
    {kk : PUnit.{1} → Prog (TpuEff nD τ sig (Elt F) Λ₀ .tc) α} (h : St X R G K c (tail (j + 1)) ⊢ run c (kk ⟨⟩) Q)
    (e : acts[j]? = some (.send (lift18 k)) := by exact rfl) (hk : k.val = 0 ∨ k.val = 2 := by decide) (hn : n = devOf c (lift18 k) := by exact rfl)
    (hS : sS = sendS (lift18 k) := by exact rfl) (hR : sR = recvS (lift18 k) := by exact rfl) (hd : dstM = M := by exact rfl)
    (ho : off = offOf c (lift18 k) := by exact rfl) (hN : M.view.amount (.dma (recvS (lift18 k))) = amt (lift18 k) := by exact rfl)
    (hslot : ∀ t, slotH (F := F) k t = slotPts M t := by exact fun _ => rfl)
    (hland : ∀ t, landH X k t = landPts M t (cut (quR (ent (lift18 k)).d (qd t + rja (lift18 k))) (sent X k (src (lift18 k) t))) := by exact fun _ => rfl) :
    St X R G K c (tail j) ⊢ run c (.op (.enqueueDma (xM.slice (Rect.unit (s := S1024x1024) off S256x512.size p) hs₀) (.remote ((⟨n, hlt⟩ : Dev nD) : Thread nD τ) dstM (.dma sS) hsc) (.dma sR) h₁ h₂ h₃) kk) Q := by
  rw [tail_cons j _ e]
  exact step_send_x c k hk (send_dev c (lift18 k) hlt hn) hS hR hd (send_quarter c xM (lift18 k) (by show k.val < 4; omega) hs₀ ho) hN hslot hland h

/-- A quarter of a first sum goes out. -/
theorem go_send_quarter (j : ℕ) (k : Fin 18) (M : Memref sig .tc .vmem S256x512 .f32) {n : ℕ} {hlt : n < nD} {dstM : Memref sig .tc .vmem S256x512 .f32} {sS sR : DmaSem sig}
    {off : Fin 2 → ℕ} {p : ∀ i, off i + S256x512.size i ≤ S1024x1024.size i} {hs₀ : ∀ i, (Rect.unit (s := S1024x1024) off S256x512.size p).stride i = 1}
    {hsc : dstM.view.ref.isScScratch = false} {h₁ : (oM.slice (Rect.unit (s := S1024x1024) off S256x512.size p) hs₀).view.WordExact} {h₂ : dstM.view.WordExact}
    {h₃ : DmaTarget.Typed .vmem (.dma sR) (.remote ((⟨n, hlt⟩ : Dev nD) : Thread nD τ) dstM (.dma sS) hsc)}
    {kk : PUnit.{1} → Prog (TpuEff nD τ sig (Elt F) Λ₀ .tc) α} (h : St X R G K c (tail (j + 1)) ⊢ run c (kk ⟨⟩) Q)
    (e : acts[j]? = some (.send (lift18 k)) := by exact rfl) (hk : k.val = 1 ∨ k.val = 3 := by decide) (hn : n = devOf c (lift18 k) := by exact rfl)
    (hS : sS = sendS (lift18 k) := by exact rfl) (hR : sR = recvS (lift18 k) := by exact rfl) (hd : dstM = M := by exact rfl)
    (ho : off = offOf c (lift18 k) := by exact rfl) (hN : M.view.amount (.dma (recvS (lift18 k))) = amt (lift18 k) := by exact rfl)
    (hslot : ∀ t, slotH (F := F) k t = slotPts M t := by exact fun _ => rfl)
    (hland : ∀ t, landH X k t = landPts M t (cut (quR (ent (lift18 k)).d (qd t + rja (lift18 k))) (sent X k (src (lift18 k) t))) := by exact fun _ => rfl) :
    St X R G K c (tail j) ⊢ run c (.op (.enqueueDma (oM.slice (Rect.unit (s := S1024x1024) off S256x512.size p) hs₀) (.remote ((⟨n, hlt⟩ : Dev nD) : Thread nD τ) dstM (.dma sS) hsc) (.dma sR) h₁ h₂ h₃) kk) Q := by
  rw [tail_cons j _ e]
  exact step_send_quarter c k hk (send_dev c (lift18 k) hlt hn) hS hR hd (send_quarter c oM (lift18 k) (by show k.val < 4; omega) hs₀ ho) hN hslot hland h

/-- A chunk of a partial sum goes out. -/
theorem go_send_chunk (j : ℕ) (k : Fin 18) (M : Memref sig .tc .vmem S64x512 .f32) {n : ℕ} {hlt : n < nD} {dstM : Memref sig .tc .vmem S64x512 .f32} {sS sR : DmaSem sig}
    {off : Fin 2 → ℕ} {p : ∀ i, off i + S64x512.size i ≤ S1024x1024.size i} {hs₀ : ∀ i, (Rect.unit (s := S1024x1024) off S64x512.size p).stride i = 1}
    {hsc : dstM.view.ref.isScScratch = false} {h₁ : (oM.slice (Rect.unit (s := S1024x1024) off S64x512.size p) hs₀).view.WordExact} {h₂ : dstM.view.WordExact}
    {h₃ : DmaTarget.Typed .vmem (.dma sR) (.remote ((⟨n, hlt⟩ : Dev nD) : Thread nD τ) dstM (.dma sS) hsc)}
    {kk : PUnit.{1} → Prog (TpuEff nD τ sig (Elt F) Λ₀ .tc) α} (h : St X R G K c (tail (j + 1)) ⊢ run c (kk ⟨⟩) Q)
    (e : acts[j]? = some (.send (lift18 k)) := by exact rfl) (hk : 4 ≤ k.val := by decide) (hn : n = devOf c (lift18 k) := by exact rfl)
    (hS : sS = sendS (lift18 k) := by exact rfl) (hR : sR = recvS (lift18 k) := by exact rfl) (hd : dstM = M := by exact rfl)
    (ho : off = offOf c (lift18 k) := by exact rfl) (hN : M.view.amount (.dma (recvS (lift18 k))) = amt (lift18 k) := by exact rfl)
    (hslot : ∀ t, slotH (F := F) k t = slotPts M t := by exact fun _ => rfl)
    (hland : ∀ t, landH X k t = landPts M t (cut (chR (ent (lift18 k)).d (qd t + rja (lift18 k)) (gd t + rjb (lift18 k))) (sent X k (src (lift18 k) t))) := by exact fun _ => rfl) :
    St X R G K c (tail j) ⊢ run c (.op (.enqueueDma (oM.slice (Rect.unit (s := S1024x1024) off S64x512.size p) hs₀) (.remote ((⟨n, hlt⟩ : Dev nD) : Thread nD τ) dstM (.dma sS) hsc) (.dma sR) h₁ h₂ h₃) kk) Q := by
  rw [tail_cons j _ e]
  exact step_send_chunk c k hk (send_dev c (lift18 k) hlt hn) hS hR hd (send_chunk c (lift18 k) hk hs₀ ho) hN hslot hland h

/-- A chunk of the finished result goes out. -/
theorem go_send_out (j : ℕ) (k : Fin 48) {n : ℕ} {hlt : n < nD} {sS sR : DmaSem sig}
    {off off' : Fin 2 → ℕ} {p : ∀ i, off i + S64x512.size i ≤ S1024x1024.size i} {p' : ∀ i, off' i + S64x512.size i ≤ S1024x1024.size i}
    {hs₀ : ∀ i, (Rect.unit (s := S1024x1024) off S64x512.size p).stride i = 1} {hs₁ : ∀ i, (Rect.unit (s := S1024x1024) off' S64x512.size p').stride i = 1}
    {hsc : (oM.slice (Rect.unit (s := S1024x1024) off' S64x512.size p') hs₁).view.ref.isScScratch = false}
    {h₁ : (oM.slice (Rect.unit (s := S1024x1024) off S64x512.size p) hs₀).view.WordExact}
    {h₂ : (oM.slice (Rect.unit (s := S1024x1024) off' S64x512.size p') hs₁).view.WordExact}
    {h₃ : DmaTarget.Typed .vmem (.dma sR) (.remote ((⟨n, hlt⟩ : Dev nD) : Thread nD τ) (oM.slice (Rect.unit (s := S1024x1024) off' S64x512.size p') hs₁) (.dma sS) hsc)}
    {kk : PUnit.{1} → Prog (TpuEff nD τ sig (Elt F) Λ₀ .tc) α} (h : St X R G K c (tail (j + 1)) ⊢ run c (kk ⟨⟩) Q)
    (e : acts[j]? = some (.send k) := by exact rfl) (hk : 18 ≤ k.val := by decide) (hn : n = devOf c k := by exact rfl)
    (hS : sS = sendS k := by exact rfl) (hR : sR = recvS k := by exact rfl) (ho : off = offOf c k := by exact rfl) (ho' : off' = offOf c k := by exact rfl) :
    St X R G K c (tail j) ⊢ run c (.op (.enqueueDma (oM.slice (Rect.unit (s := S1024x1024) off S64x512.size p) hs₀) (.remote ((⟨n, hlt⟩ : Dev nD) : Thread nD τ) (oM.slice (Rect.unit (s := S1024x1024) off' S64x512.size p') hs₁) (.dma sS) hsc) (.dma sR) h₁ h₂ h₃) kk) Q := by
  rw [tail_cons j _ e]
  exact step_send_out c k hk (send_dev c k hlt hn) hS hR (send_chunk c k (by omega) hs₀ ho) (send_chunk c k (by omega) hs₁ ho') h

/-- The loads of a first sum: the own quarter and the one that arrived. -/
theorem ld_sum_quarter (j : ℕ) (k : Fin 18) {off : Fin 2 → ℕ} {p : ∀ i, off i + S256x512.size i ≤ S1024x1024.size i} {S3 : Shape} {m : Memref sig .tc .vmem S3 .f32} {r : Rect S3} {hr} {hsq : r.shape.Squeezes S256x512}
    {hl₁ : xM.view.LoadsAt (Rect.unit (s := S1024x1024) off S256x512.size p).toLoadRect} {hl₂ : m.view.LoadsAt r.toLoadRect}
    {kk : Vec F S256x512 .f32 → Vec F r.shape .f32 → Prog (TpuEff nD τ sig (Elt F) Λ₀ .tc) α} (hc : r.shape.ShapeCasts S256x512)
    (h₀ : S256x512.ShapeCasts S256x512)
    (h : ∀ v w, addf (φ := .f32) (F := F) (shapeCast S256x512 v h₀) (shapeCast S256x512 w hc) = cut (quR (ent (lift18 k)).d (qd c + rja (lift18 k))) (part X (ent (lift18 k)).d (madeOf k) c) →
      St X R G K c (tail j) ⊢ run c (kk v w) Q)
    (e : acts[j]? = some (.acc k) := by exact rfl) (hk : k.val < 4 := by decide) (ho : off = sumOf c k := by exact rfl)
    (hland : landH X k c = landPts ((m.slice r hr).squeeze S256x512 hsq) c (cut (quR (ent (lift18 k)).d (qd c + rja (lift18 k))) (sent X k (src (lift18 k) c))) := by exact rfl) :
    St X R G K c (tail j) ⊢ run c (.op (.load xM (Rect.unit (s := S1024x1024) off S256x512.size p).toLoadRect hl₁) fun v => .op (.load m r.toLoadRect hl₂) fun w => kk v w) Q := by
  rw [tail_cons j _ e] at h ⊢
  refine ld_x c (q_inb (ent (lift18 k)).d (qd c + rja (lift18 k))) (sum_quarter c k hk ho) ?_
  refine ld_slot c k hc hland fun w hw => ?_
  exact h _ w (made_sum X k c (quR (ent (lift18 k)).d (qd c + rja (lift18 k))) w (X c) ((if_pos (by omega)).symm) h₀ hc hw)

/-- The whole of that sum, its result stored. -/
theorem go_sum_quarter (j : ℕ) (k : Fin 18) {off : Fin 2 → ℕ} {p : ∀ i, off i + S256x512.size i ≤ S1024x1024.size i} {S3 : Shape} {m : Memref sig .tc .vmem S3 .f32} {r : Rect S3} {hr} {hsq : r.shape.Squeezes S256x512}
    {hl₁ : xM.view.LoadsAt (Rect.unit (s := S1024x1024) off S256x512.size p).toLoadRect} {hl₂ : m.view.LoadsAt r.toLoadRect} {off' : Fin 2 → ℕ} {p₁ p₂ : ∀ i, off' i + S256x512.size i ≤ S1024x1024.size i}
    {hl₃ : oM.view.LoadsAt (Rect.unit (s := S1024x1024) off' S256x512.size p₁).toLoadRect} {hx hM}
    {pay : Vec F S256x512 .f32 → Vec F r.shape .f32 → Vec F S256x512 .f32}
    {kk : PUnit.{1} → Prog (TpuEff nD τ sig (Elt F) Λ₀ .tc) α} (hc : r.shape.ShapeCasts S256x512)
    (h₀ : S256x512.ShapeCasts S256x512) (h : St X R G K c (tail (j + 1)) ⊢ run c (kk ⟨⟩) Q)
    (e : acts[j]? = some (.acc k) := by exact rfl) (hk : k.val < 4 := by decide) (ho : off = sumOf c k := by exact rfl) (ho' : off' = sumOf c k := by exact rfl)
    (hland : landH X k c = landPts ((m.slice r hr).squeeze S256x512 hsq) c (cut (quR (ent (lift18 k)).d (qd c + rja (lift18 k))) (sent X k (src (lift18 k) c))) := by exact rfl)
    (hp : ∀ v w, pay v w = addf (φ := .f32) (F := F) (shapeCast S256x512 v h₀) (shapeCast S256x512 w hc) := by exact fun _ _ => rfl) :
    St X R G K c (tail j) ⊢ run c (.op (.load xM (Rect.unit (s := S1024x1024) off S256x512.size p).toLoadRect hl₁) fun v => .op (.load m r.toLoadRect hl₂) fun w =>
      .op (.load oM (Rect.unit (s := S1024x1024) off' S256x512.size p₁).toLoadRect hl₃) fun _ => .op (.store oM (Rect.unit (s := S1024x1024) off' S256x512.size p₂) (pay v w) Finset.univ hx hM) kk) Q := by
  refine ld_sum_quarter c j k hc h₀ (fun v w hv => ?_) e hk ho hland
  rw [tail_cons j _ e]
  exact st_quarter c k (by omega) (sum_quarter c k hk ho') ((hp v w).trans hv) h

/-- The loads of a second sum: the own chunk and the one that arrived. -/
theorem ld_sum_chunk (j : ℕ) (k : Fin 18) {off : Fin 2 → ℕ} {p : ∀ i, off i + S64x512.size i ≤ S1024x1024.size i} {S3 : Shape} {m : Memref sig .tc .vmem S3 .f32} {r : Rect S3} {hr} {hsq : r.shape.Squeezes S64x512}
    {hl₁ : xM.view.LoadsAt (Rect.unit (s := S1024x1024) off S64x512.size p).toLoadRect} {hl₂ : m.view.LoadsAt r.toLoadRect}
    {kk : Vec F S64x512 .f32 → Vec F r.shape .f32 → Prog (TpuEff nD τ sig (Elt F) Λ₀ .tc) α} (hc : r.shape.ShapeCasts S64x512)
    (h₀ : S64x512.ShapeCasts S64x512)
    (h : ∀ v w, addf (φ := .f32) (F := F) (shapeCast S64x512 v h₀) (shapeCast S64x512 w hc) = cut (chR (ent (lift18 k)).d (qd c + rja (lift18 k)) (gd c + rjb (lift18 k))) (part X (ent (lift18 k)).d (madeOf k) c) →
      St X R G K c (tail j) ⊢ run c (kk v w) Q)
    (e : acts[j]? = some (.acc k) := by exact rfl) (hk : 4 ≤ k.val ∧ k.val < 12 := by decide) (ho : off = sumOf c k := by exact rfl)
    (hland : landH X k c = landPts ((m.slice r hr).squeeze S64x512 hsq) c (cut (chR (ent (lift18 k)).d (qd c + rja (lift18 k)) (gd c + rjb (lift18 k))) (sent X k (src (lift18 k) c))) := by exact rfl) :
    St X R G K c (tail j) ⊢ run c (.op (.load xM (Rect.unit (s := S1024x1024) off S64x512.size p).toLoadRect hl₁) fun v => .op (.load m r.toLoadRect hl₂) fun w => kk v w) Q := by
  rw [tail_cons j _ e] at h ⊢
  refine ld_x c (c_inb (ent (lift18 k)).d (qd c + rja (lift18 k)) (gd c + rjb (lift18 k))) (sum_chunk c k (by omega) ho) ?_
  refine ld_slot c k hc hland fun w hw => ?_
  exact h _ w (made_sum X k c (chR (ent (lift18 k)).d (qd c + rja (lift18 k)) (gd c + rjb (lift18 k))) w (X c) ((if_pos (by omega)).symm) h₀ hc hw)

/-- The whole of that sum, its result stored. -/
theorem go_sum_chunk (j : ℕ) (k : Fin 18) {off : Fin 2 → ℕ} {p : ∀ i, off i + S64x512.size i ≤ S1024x1024.size i} {S3 : Shape} {m : Memref sig .tc .vmem S3 .f32} {r : Rect S3} {hr} {hsq : r.shape.Squeezes S64x512}
    {hl₁ : xM.view.LoadsAt (Rect.unit (s := S1024x1024) off S64x512.size p).toLoadRect} {hl₂ : m.view.LoadsAt r.toLoadRect} {off' : Fin 2 → ℕ} {p₁ p₂ : ∀ i, off' i + S64x512.size i ≤ S1024x1024.size i}
    {hl₃ : oM.view.LoadsAt (Rect.unit (s := S1024x1024) off' S64x512.size p₁).toLoadRect} {hx hM}
    {pay : Vec F S64x512 .f32 → Vec F r.shape .f32 → Vec F S64x512 .f32}
    {kk : PUnit.{1} → Prog (TpuEff nD τ sig (Elt F) Λ₀ .tc) α} (hc : r.shape.ShapeCasts S64x512)
    (h₀ : S64x512.ShapeCasts S64x512) (h : St X R G K c (tail (j + 1)) ⊢ run c (kk ⟨⟩) Q)
    (e : acts[j]? = some (.acc k) := by exact rfl) (hk : 4 ≤ k.val ∧ k.val < 12 := by decide) (ho : off = sumOf c k := by exact rfl) (ho' : off' = sumOf c k := by exact rfl)
    (hland : landH X k c = landPts ((m.slice r hr).squeeze S64x512 hsq) c (cut (chR (ent (lift18 k)).d (qd c + rja (lift18 k)) (gd c + rjb (lift18 k))) (sent X k (src (lift18 k) c))) := by exact rfl)
    (hp : ∀ v w, pay v w = addf (φ := .f32) (F := F) (shapeCast S64x512 v h₀) (shapeCast S64x512 w hc) := by exact fun _ _ => rfl) :
    St X R G K c (tail j) ⊢ run c (.op (.load xM (Rect.unit (s := S1024x1024) off S64x512.size p).toLoadRect hl₁) fun v => .op (.load m r.toLoadRect hl₂) fun w =>
      .op (.load oM (Rect.unit (s := S1024x1024) off' S64x512.size p₁).toLoadRect hl₃) fun _ => .op (.store oM (Rect.unit (s := S1024x1024) off' S64x512.size p₂) (pay v w) Finset.univ hx hM) kk) Q := by
  refine ld_sum_chunk c j k hc h₀ (fun v w hv => ?_) e hk ho hland
  rw [tail_cons j _ e]
  exact st_chunk c k (by omega) (sum_chunk c k (by omega) ho') ((hp v w).trans hv) h

/-- The loads of a third sum: the chunk so far and the one that arrived. -/
theorem ld_sum_last (j : ℕ) (k : Fin 18) {off : Fin 2 → ℕ} {p : ∀ i, off i + S64x512.size i ≤ S1024x1024.size i} {S3 : Shape} {m : Memref sig .tc .vmem S3 .f32} {r : Rect S3} {hr} {hsq : r.shape.Squeezes S64x512}
    {hl₁ : oM.view.LoadsAt (Rect.unit (s := S1024x1024) off S64x512.size p).toLoadRect} {hl₂ : m.view.LoadsAt r.toLoadRect}
    {kk : Vec F S64x512 .f32 → Vec F r.shape .f32 → Prog (TpuEff nD τ sig (Elt F) Λ₀ .tc) α} (hc : r.shape.ShapeCasts S64x512)
    (h₀ : S64x512.ShapeCasts S64x512)
    (h : ∀ v w, addf (φ := .f32) (F := F) (shapeCast S64x512 v h₀) (shapeCast S64x512 w hc) = cut (chR (ent (lift18 k)).d (qd c + rja (lift18 k)) (gd c + rjb (lift18 k))) (part X (ent (lift18 k)).d (madeOf k) c) →
      St X R G K c (tail j) ⊢ run c (kk v w) Q)
    (e : acts[j]? = some (.acc k) := by exact rfl) (hk : 12 ≤ k.val := by decide) (ho : off = sumOf c k := by exact rfl)
    (hland : landH X k c = landPts ((m.slice r hr).squeeze S64x512 hsq) c (cut (chR (ent (lift18 k)).d (qd c + rja (lift18 k)) (gd c + rjb (lift18 k))) (sent X k (src (lift18 k) c))) := by exact rfl) :
    St X R G K c (tail j) ⊢ run c (.op (.load oM (Rect.unit (s := S1024x1024) off S64x512.size p).toLoadRect hl₁) fun v => .op (.load m r.toLoadRect hl₂) fun w => kk v w) Q := by
  rw [tail_cons j _ e] at h ⊢
  refine ld_out c k (by omega) (sum_chunk c k (by omega) ho) ?_
  refine ld_slot c k hc hland fun w hw => ?_
  exact h _ w (made_sum X k c (chR (ent (lift18 k)).d (qd c + rja (lift18 k)) (gd c + rjb (lift18 k))) w (part X (ent (lift18 k)).d 2 c) ((if_neg (by omega)).symm) h₀ hc hw)

/-- The whole of that sum, its result stored. -/
theorem go_sum_last (j : ℕ) (k : Fin 18) {off : Fin 2 → ℕ} {p : ∀ i, off i + S64x512.size i ≤ S1024x1024.size i} {S3 : Shape} {m : Memref sig .tc .vmem S3 .f32} {r : Rect S3} {hr} {hsq : r.shape.Squeezes S64x512}
    {hl₁ : oM.view.LoadsAt (Rect.unit (s := S1024x1024) off S64x512.size p).toLoadRect} {hl₂ : m.view.LoadsAt r.toLoadRect} {off' : Fin 2 → ℕ} {p₁ p₂ : ∀ i, off' i + S64x512.size i ≤ S1024x1024.size i}
    {hl₃ : oM.view.LoadsAt (Rect.unit (s := S1024x1024) off' S64x512.size p₁).toLoadRect} {hx hM}
    {pay : Vec F S64x512 .f32 → Vec F r.shape .f32 → Vec F S64x512 .f32}
    {kk : PUnit.{1} → Prog (TpuEff nD τ sig (Elt F) Λ₀ .tc) α} (hc : r.shape.ShapeCasts S64x512)
    (h₀ : S64x512.ShapeCasts S64x512) (h : St X R G K c (tail (j + 1)) ⊢ run c (kk ⟨⟩) Q)
    (e : acts[j]? = some (.acc k) := by exact rfl) (hk : 12 ≤ k.val := by decide) (ho : off = sumOf c k := by exact rfl) (ho' : off' = sumOf c k := by exact rfl)
    (hland : landH X k c = landPts ((m.slice r hr).squeeze S64x512 hsq) c (cut (chR (ent (lift18 k)).d (qd c + rja (lift18 k)) (gd c + rjb (lift18 k))) (sent X k (src (lift18 k) c))) := by exact rfl)
    (hp : ∀ v w, pay v w = addf (φ := .f32) (F := F) (shapeCast S64x512 v h₀) (shapeCast S64x512 w hc) := by exact fun _ _ => rfl) :
    St X R G K c (tail j) ⊢ run c (.op (.load oM (Rect.unit (s := S1024x1024) off S64x512.size p).toLoadRect hl₁) fun v => .op (.load m r.toLoadRect hl₂) fun w =>
      .op (.load oM (Rect.unit (s := S1024x1024) off' S64x512.size p₁).toLoadRect hl₃) fun _ => .op (.store oM (Rect.unit (s := S1024x1024) off' S64x512.size p₂) (pay v w) Finset.univ hx hM) kk) Q := by
  refine ld_sum_last c j k hc h₀ (fun v w hv => ?_) e hk ho hland
  rw [tail_cons j _ e]
  exact st_chunk c k (by omega) (sum_chunk c k (by omega) ho') ((hp v w).trans hv) h

/-- A first sum is stored. -/
theorem go_st_quarter (j : ℕ) (k : Fin 18) {off : Fin 2 → ℕ} {p p' : ∀ i, off i + S256x512.size i ≤ S1024x1024.size i}
    {hl : oM.view.LoadsAt (Rect.unit (s := S1024x1024) off S256x512.size p).toLoadRect} {v : Vec F (Rect.unit (s := S1024x1024) off S256x512.size p').shape .f32} {hx} {hM}
    (hv : v = cut (quR (ent (lift18 k)).d (qd c + rja (lift18 k))) (part X (ent (lift18 k)).d (madeOf k) c))
    {kk : PUnit.{1} → Prog (TpuEff nD τ sig (Elt F) Λ₀ .tc) α} (h : St X R G K c (tail (j + 1)) ⊢ run c (kk ⟨⟩) Q)
    (e : acts[j]? = some (.acc k) := by exact rfl) (hk : k.val < 4 := by decide) (ho : off = sumOf c k := by exact rfl) :
    St X R G K c (tail j) ⊢ run c (.op (.load oM (Rect.unit (s := S1024x1024) off S256x512.size p).toLoadRect hl) fun _ => .op (.store oM (Rect.unit (s := S1024x1024) off S256x512.size p') v Finset.univ hx hM) kk) Q := by
  rw [tail_cons j _ e]
  exact st_quarter c k hk (sum_quarter c k hk ho) hv h

/-- A later sum is stored. -/
theorem go_st_chunk (j : ℕ) (k : Fin 18) {off : Fin 2 → ℕ} {p p' : ∀ i, off i + S64x512.size i ≤ S1024x1024.size i}
    {hl : oM.view.LoadsAt (Rect.unit (s := S1024x1024) off S64x512.size p).toLoadRect} {v : Vec F (Rect.unit (s := S1024x1024) off S64x512.size p').shape .f32} {hx} {hM}
    (hv : v = cut (chR (ent (lift18 k)).d (qd c + rja (lift18 k)) (gd c + rjb (lift18 k))) (part X (ent (lift18 k)).d (madeOf k) c))
    {kk : PUnit.{1} → Prog (TpuEff nD τ sig (Elt F) Λ₀ .tc) α} (h : St X R G K c (tail (j + 1)) ⊢ run c (kk ⟨⟩) Q)
    (e : acts[j]? = some (.acc k) := by exact rfl) (hk : 4 ≤ k.val := by decide) (ho : off = sumOf c k := by exact rfl) :
    St X R G K c (tail j) ⊢ run c (.op (.load oM (Rect.unit (s := S1024x1024) off S64x512.size p).toLoadRect hl) fun _ => .op (.store oM (Rect.unit (s := S1024x1024) off S64x512.size p') v Finset.univ hx hM) kk) Q := by
  rw [tail_cons j _ e]
  exact st_chunk c k hk (sum_chunk c k hk ho) hv h

end Cert.Plan

end

end
-- ==== Proof.BodyA.lean ====
/-
  The first parts of the program: the signals and the first sums.
-/
module

public import proofs.«01_k».proof.Proof.Acts

@[expose] public section

noncomputable section

namespace Cert.Plan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X R : Dev nD → Vec F S1024x1024 .f32} {G : Dev nD → Vec F S1x1024 .f32}
variable {K : Dev nD × Fin 97 → ℕ}
variable {α : Type} {Q : α → sProp (MT nD τ sig Unit (Elt F) ℕ UU ℕ)} (c : Dev nD)
variable {hx : xM.IsWhole} {hr : rM.IsWhole} {hg : gM.IsWhole} {ho : oM.IsWhole} {ha : aM.IsWhole} {hb : bM.IsWhole} {hm : cM.IsWhole}

theorem part1 {k} (h : ∀ v3 v4 v8 v12 v16 v20 v24 w, St X R G K c (tail 2) ⊢ run c (k ⟨c, v3, v4, v8, v12, v16, v20, v24, SemArray.scalar (sig.barrier 0 rfl), w⟩) Q) :
    St X R G K c (tail 0) ⊢ run c (k0_part1 xM hx rM hr gM hg oM ho aM ha bM hb cM hm cc0_scratch3 cc0_scratch4 >>= k) Q := by
  rw [k0_part1_eq_skeleton]; unfold k0_part1_skel
  simp only [semSignalWord, semWaitWord, Prog.lift, Prog.bind_op, Prog.bind_ret, Prog.pure_eq_ret, wp_deviceId]
  refine go_sig c 0 0 ?_
  refine go_sig c 1 1 ?_
  exact h _ _ _ _ _ _ _ _

theorem part2 {v4 v8 v16 v20 v24 w k} (h : ∀ r, St X R G K c (tail 7) ⊢ run c (k r) Q) :
    St X R G K c (tail 2) ⊢ run c (k0_part2 xM hx rM hr gM hg oM ho aM ha bM hb cM hm cc0_scratch3 cc0_scratch4 c v4 v8 v16 v20 v24 (SemArray.scalar (sig.barrier 0 rfl)) w >>= k) Q := by
  rw [k0_part2_eq_skeleton]; unfold k0_part2_skel
  simp only [semSignalWord, semWaitWord, Prog.lift, Prog.bind_op, Prog.bind_ret, Prog.pure_eq_ret, wp_deviceId]
  refine go_sig c 2 2 ?_
  refine go_sig c 3 3 ?_
  refine go_sig c 4 4 ?_
  refine go_bar c 5 ?_
  refine go_send_x c 6 0 (aS 0) ?_
  exact h _

theorem part3 {v4 v8 v12 k} (h : ∀ r, St X R G K c (tail 10) ⊢ run c (k r) Q) :
    St X R G K c (tail 7) ⊢ run c (k0_part3 xM hx rM hr gM hg oM ho aM ha bM hb cM hm cc0_scratch3 cc0_scratch4 c v4 v8 v12 >>= k) Q := by
  rw [k0_part3_eq_skeleton]; unfold k0_part3_skel
  simp only [semSignalWord, semWaitWord, Prog.lift, Prog.bind_op, Prog.bind_ret, Prog.pure_eq_ret, wp_deviceId]
  refine go_send_x c 7 2 (aS 2) ?_
  refine go_recv c 8 0 ?_
  refine go_sum_quarter c 9 0 (hsq := squeezes_S1x256x512_S256x512) (hr := fun _ => rfl) shapeCasts_S1x256x512_S256x512 shapeCasts_S256x512_S256x512 ?_
  exact h _

theorem part4 {v4 v8 v12 w k} (h : ∀ r1 r2 r3, r2 = cut (quR (ent (lift18 2)).d (qd c + rja (lift18 2))) (part X (ent (lift18 2)).d (madeOf 2) c) → St X R G K c (tail 12) ⊢ run c (k ⟨r1, r2, r3⟩) Q) :
    St X R G K c (tail 10) ⊢ run c (k0_part4 xM hx rM hr gM hg oM ho aM ha bM hb cM hm cc0_scratch3 cc0_scratch4 c v4 v8 v12 w >>= k) Q := by
  rw [k0_part4_eq_skeleton]; unfold k0_part4_skel
  simp only [semSignalWord, semWaitWord, Prog.lift, Prog.bind_op, Prog.bind_ret, Prog.pure_eq_ret, wp_deviceId]
  refine go_send_quarter c 10 1 (aS 1) ?_
  refine go_recv c 11 2 ?_
  refine ld_sum_quarter c 12 2 (hsq := squeezes_S1x256x512_S256x512) (hr := fun _ => rfl) shapeCasts_S1x256x512_S256x512 shapeCasts_S256x512_S256x512 (fun v w hv => ?_)
  exact h _ _ _ hv

theorem part5 {v4 v8 v12 v108 v115 w k} (hv : v115 = cut (quR (ent (lift18 2)).d (qd c + rja (lift18 2))) (part X (ent (lift18 2)).d (madeOf 2) c)) (h : ∀ r, St X R G K c (tail 15) ⊢ run c (k ⟨r, cut (quR (ent (lift18 1)).d (qd c + rja (lift18 1))) (X c)⟩) Q) :
    St X R G K c (tail 12) ⊢ run c (k0_part5 xM hx rM hr gM hg oM ho aM ha bM hb cM hm cc0_scratch3 cc0_scratch4 c v4 v8 v12 v108 v115 w >>= k) Q := by
  rw [k0_part5_eq_skeleton]; unfold k0_part5_skel
  simp only [semSignalWord, semWaitWord, Prog.lift, Prog.bind_op, Prog.bind_ret, Prog.pure_eq_ret, wp_deviceId]
  refine go_st_quarter c 12 2 (by exact hv) ?_
  refine go_send_quarter c 13 3 (aS 3) ?_
  refine go_recv c 14 1 ?_
  refine ld_x c (q_inb (ent (lift18 1)).d (qd c + rja (lift18 1))) (sum_quarter c 1 (by decide) rfl) ?_
  exact h _

theorem part6 {v3 v4 v8 v12 v142 k} (h : St X R G K c (tail 17) ⊢ run c (k ⟨⟩) Q) :
    St X R G K c (tail 15) ⊢ run c (k0_part6 xM hx rM hr gM hg oM ho aM ha bM hb cM hm cc0_scratch3 cc0_scratch4 c v3 v4 v8 v12 v142 (cut (quR (ent (lift18 1)).d (qd c + rja (lift18 1))) (X c)) >>= k) Q := by
  rw [k0_part6_eq_skeleton]; unfold k0_part6_skel
  simp only [semSignalWord, semWaitWord, Prog.lift, Prog.bind_op, Prog.bind_ret, Prog.pure_eq_ret, wp_deviceId]
  rw [tail_cons 15 (.acc 1) rfl]
  refine ld_slot c 1 shapeCasts_S1x256x512_S256x512 (hsq := squeezes_S1x256x512_S256x512) (hr := fun _ => rfl) (by exact rfl) fun w hw => ?_
  refine st_quarter c 1 (by decide) (sum_quarter c 1 (by decide) rfl) (by exact made_sum X 1 c (quR (ent (lift18 1)).d (qd c + rja (lift18 1))) w (X c) rfl shapeCasts_S256x512_S256x512 shapeCasts_S1x256x512_S256x512 hw) ?_
  refine go_send_chunk c 16 4 (bS 0) ?_
  exact h

theorem part7 {v3 v4 v12 k} (h : St X R G K c (tail 20) ⊢ run c (k ⟨⟩) Q) :
    St X R G K c (tail 17) ⊢ run c (k0_part7 xM hx rM hr gM hg oM ho aM ha bM hb cM hm cc0_scratch3 cc0_scratch4 c v3 v4 v12 >>= k) Q := by
  rw [k0_part7_eq_skeleton]; unfold k0_part7_skel
  simp only [semSignalWord, semWaitWord, Prog.lift, Prog.bind_op, Prog.bind_ret, Prog.pure_eq_ret, wp_deviceId]
  refine go_recv c 17 3 ?_
  refine go_sum_quarter c 18 3 (hsq := squeezes_S1x256x512_S256x512) (hr := fun _ => rfl) shapeCasts_S1x256x512_S256x512 shapeCasts_S256x512_S256x512 ?_
  refine go_send_chunk c 19 8 (bS 4) ?_
  exact h

theorem part8 {v3 v8 v16 v38 k} (h : St X R G K c (tail 22) ⊢ run c (k ⟨⟩) Q) :
    St X R G K c (tail 20) ⊢ run c (k0_part8 xM hx rM hr gM hg oM ho aM ha bM hb cM hm cc0_scratch3 cc0_scratch4 c v3 v8 v16 v38 >>= k) Q := by
  rw [k0_part8_eq_skeleton]; unfold k0_part8_skel
  simp only [semSignalWord, semWaitWord, Prog.lift, Prog.bind_op, Prog.bind_ret, Prog.pure_eq_ret, wp_deviceId]
  refine go_recv c 20 4 ?_
  refine go_sum_chunk c 21 4 (hsq := squeezes_S1x64x512_S64x512) (hr := fun _ => rfl) shapeCasts_S1x64x512_S64x512 shapeCasts_S64x512_S64x512 ?_
  exact h

theorem part9 {v3 v4 v8 v12 k} (h : ∀ r, St X R G K c (tail 25) ⊢ run c (k r) Q) :
    St X R G K c (tail 22) ⊢ run c (k0_part9 xM hx rM hr gM hg oM ho aM ha bM hb cM hm cc0_scratch3 cc0_scratch4 c v3 v4 v8 v12 >>= k) Q := by
  rw [k0_part9_eq_skeleton]; unfold k0_part9_skel
  simp only [semSignalWord, semWaitWord, Prog.lift, Prog.bind_op, Prog.bind_ret, Prog.pure_eq_ret, wp_deviceId]
  refine go_send_chunk c 22 12 (cS 0) ?_
  refine go_send_chunk c 23 5 (bS 1) ?_
  refine go_recv c 24 8 ?_
  exact h _

theorem part10 {v3 v4 v12 v20 v38 v267 k} (h : ∀ r, St X R G K c (tail 27) ⊢ run c (k r) Q) :
    St X R G K c (tail 25) ⊢ run c (k0_part10 xM hx rM hr gM hg oM ho aM ha bM hb cM hm cc0_scratch3 cc0_scratch4 c v3 v4 v12 v20 v38 v267 >>= k) Q := by
  rw [k0_part10_eq_skeleton]; unfold k0_part10_skel
  simp only [semSignalWord, semWaitWord, Prog.lift, Prog.bind_op, Prog.bind_ret, Prog.pure_eq_ret, wp_deviceId]
  refine go_sum_chunk c 25 8 (hsq := squeezes_S1x64x512_S64x512) (hr := fun _ => rfl) shapeCasts_S1x64x512_S64x512 shapeCasts_S64x512_S64x512 ?_
  refine go_send_chunk c 26 15 (cS 3) ?_
  exact h _

theorem part11 {v3 v4 v8 v38 v298 k} (h : ∀ r1 r2, St X R G K c (tail 30) ⊢ run c (k ⟨r1, r2⟩) Q) :
    St X R G K c (tail 27) ⊢ run c (k0_part11 xM hx rM hr gM hg oM ho aM ha bM hb cM hm cc0_scratch3 cc0_scratch4 c v3 v4 v8 v38 v298 >>= k) Q := by
  rw [k0_part11_eq_skeleton]; unfold k0_part11_skel
  simp only [semSignalWord, semWaitWord, Prog.lift, Prog.bind_op, Prog.bind_ret, Prog.pure_eq_ret, wp_deviceId]
  refine go_send_chunk c 27 9 (bS 5) ?_
  refine go_recv c 28 5 ?_
  refine go_sum_chunk c 29 5 (hsq := squeezes_S1x64x512_S64x512) (hr := fun _ => rfl) shapeCasts_S1x64x512_S64x512 shapeCasts_S64x512_S64x512 ?_
  exact h _ _

theorem part12 {v3 v8 v12 v38 v329 v330 k} (h : ∀ r1 r2 r3, addf (φ := .f32) (F := F) r2 (shapeCast S64x512 r3 shapeCasts_S1x64x512_S64x512) = cut (chR (ent (lift18 9)).d (qd c + rja (lift18 9)) (gd c + rjb (lift18 9))) (part X (ent (lift18 9)).d (madeOf 9) c) → St X R G K c (tail 32) ⊢ run c (k ⟨r1, r2, r3⟩) Q) :
    St X R G K c (tail 30) ⊢ run c (k0_part12 xM hx rM hr gM hg oM ho aM ha bM hb cM hm cc0_scratch3 cc0_scratch4 c v3 v8 v12 v38 v329 v330 >>= k) Q := by
  rw [k0_part12_eq_skeleton]; unfold k0_part12_skel
  simp only [semSignalWord, semWaitWord, Prog.lift, Prog.bind_op, Prog.bind_ret, Prog.pure_eq_ret, wp_deviceId]
  refine go_send_chunk c 30 6 (bS 2) ?_
  refine go_recv c 31 9 ?_
  refine ld_sum_chunk c 32 9 (hsq := squeezes_S1x64x512_S64x512) (hr := fun _ => rfl) shapeCasts_S1x64x512_S64x512 shapeCasts_S64x512_S64x512 (fun v w hv => ?_)
  exact h _ _ _ hv

theorem part13 {v3 v4 v12 v16 v356 v359 v360 k} (hv : addf (φ := .f32) (F := F) v359 (shapeCast S64x512 v360 shapeCasts_S1x64x512_S64x512) = cut (chR (ent (lift18 9)).d (qd c + rja (lift18 9)) (gd c + rjb (lift18 9))) (part X (ent (lift18 9)).d (madeOf 9) c)) (h : ∀ r1 r2, St X R G K c (tail 35) ⊢ run c (k ⟨r1, r2⟩) Q) :
    St X R G K c (tail 32) ⊢ run c (k0_part13 xM hx rM hr gM hg oM ho aM ha bM hb cM hm cc0_scratch3 cc0_scratch4 c v3 v4 v12 v16 v356 v359 v360 >>= k) Q := by
  rw [k0_part13_eq_skeleton]; unfold k0_part13_skel
  simp only [semSignalWord, semWaitWord, Prog.lift, Prog.bind_op, Prog.bind_ret, Prog.pure_eq_ret, wp_deviceId]
  refine go_st_chunk c 32 9 (by exact hv) ?_
  refine go_send_chunk c 33 10 (bS 6) ?_
  refine go_recv c 34 12 ?_
  exact h _ _

theorem part14 {v3 v16 v20 v38 v390 w k} (h : ∀ r, St X R G K c (tail 38) ⊢ run c (k r) Q) :
    St X R G K c (tail 35) ⊢ run c (k0_part14 xM hx rM hr gM hg oM ho aM ha bM hb cM hm cc0_scratch3 cc0_scratch4 c v3 v16 v20 v38 v390 w >>= k) Q := by
  rw [k0_part14_eq_skeleton]; unfold k0_part14_skel
  simp only [semSignalWord, semWaitWord, Prog.lift, Prog.bind_op, Prog.bind_ret, Prog.pure_eq_ret, wp_deviceId]
  refine go_sum_last c 35 12 (hsq := squeezes_S1x64x512_S64x512) (hr := fun _ => rfl) shapeCasts_S1x64x512_S64x512 shapeCasts_S64x512_S64x512 ?_
  refine go_send_chunk c 36 13 (cS 1) ?_
  refine go_recv c 37 15 ?_
  exact h _

theorem part15 {v3 v8 v20 v38 w k} (h : St X R G K c (tail 40) ⊢ run c (k ⟨⟩) Q) :
    St X R G K c (tail 38) ⊢ run c (k0_part15 xM hx rM hr gM hg oM ho aM ha bM hb cM hm cc0_scratch3 cc0_scratch4 c v3 v8 v20 v38 w >>= k) Q := by
  rw [k0_part15_eq_skeleton]; unfold k0_part15_skel
  simp only [semSignalWord, semWaitWord, Prog.lift, Prog.bind_op, Prog.bind_ret, Prog.pure_eq_ret, wp_deviceId]
  refine go_sum_last c 38 15 (hsq := squeezes_S1x64x512_S64x512) (hr := fun _ => rfl) shapeCasts_S1x64x512_S64x512 shapeCasts_S64x512_S64x512 ?_
  refine go_send_chunk c 39 16 (cS 4) ?_
  exact h

end Cert.Plan

end

end
-- ==== Proof.BodyB.lean ====
/-
  The middle parts: the last sums, the normalisation and the first results sent on.
-/
module

public import proofs.«01_k».proof.Proof.Acts

@[expose] public section

noncomputable section

namespace Cert.Plan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X R : Dev nD → Vec F S1024x1024 .f32} {G : Dev nD → Vec F S1x1024 .f32}
variable {K : Dev nD × Fin 97 → ℕ}
variable {α : Type} {Q : α → sProp (MT nD τ sig Unit (Elt F) ℕ UU ℕ)} (c : Dev nD)
variable {hx : xM.IsWhole} {hr : rM.IsWhole} {hg : gM.IsWhole} {ho : oM.IsWhole} {ha : aM.IsWhole} {hb : bM.IsWhole} {hm : cM.IsWhole}

theorem part16 {v3 v4 v8 v38 k} (h : St X R G K c (tail 42) ⊢ run c (k ⟨⟩) Q) :
    St X R G K c (tail 40) ⊢ run c (k0_part16 xM hx rM hr gM hg oM ho aM ha bM hb cM hm cc0_scratch3 cc0_scratch4 c v3 v4 v8 v38 >>= k) Q := by
  rw [k0_part16_eq_skeleton]; unfold k0_part16_skel
  simp only [semSignalWord, semWaitWord, Prog.lift, Prog.bind_op, Prog.bind_ret, Prog.pure_eq_ret, wp_deviceId]
  refine go_recv c 40 6 ?_
  refine go_sum_chunk c 41 6 (hsq := squeezes_S1x64x512_S64x512) (hr := fun _ => rfl) shapeCasts_S1x64x512_S64x512 shapeCasts_S64x512_S64x512 ?_
  exact h

theorem part17 {v3 v4 v12 v38 k} (h : St X R G K c (tail 45) ⊢ run c (k ⟨⟩) Q) :
    St X R G K c (tail 42) ⊢ run c (k0_part17 xM hx rM hr gM hg oM ho aM ha bM hb cM hm cc0_scratch3 cc0_scratch4 c v3 v4 v12 v38 >>= k) Q := by
  rw [k0_part17_eq_skeleton]; unfold k0_part17_skel
  simp only [semSignalWord, semWaitWord, Prog.lift, Prog.bind_op, Prog.bind_ret, Prog.pure_eq_ret, wp_deviceId]
  refine go_send_chunk c 42 7 (bS 3) ?_
  refine go_recv c 43 10 ?_
  refine go_sum_chunk c 44 10 (hsq := squeezes_S1x64x512_S64x512) (hr := fun _ => rfl) shapeCasts_S1x64x512_S64x512 shapeCasts_S64x512_S64x512 ?_
  exact h

theorem part18 {v3 v16 v38 k} (h : ∀ r, St X R G K c (tail 48) ⊢ run c (k r) Q) :
    St X R G K c (tail 45) ⊢ run c (k0_part18 xM hx rM hr gM hg oM ho aM ha bM hb cM hm cc0_scratch3 cc0_scratch4 c v3 v16 v38 >>= k) Q := by
  rw [k0_part18_eq_skeleton]; unfold k0_part18_skel
  simp only [semSignalWord, semWaitWord, Prog.lift, Prog.bind_op, Prog.bind_ret, Prog.pure_eq_ret, wp_deviceId]
  refine go_send_chunk c 45 11 (bS 7) ?_
  refine go_recv c 46 13 ?_
  refine go_sum_last c 47 13 (hsq := squeezes_S1x64x512_S64x512) (hr := fun _ => rfl) shapeCasts_S1x64x512_S64x512 shapeCasts_S64x512_S64x512 ?_
  exact h _

theorem part19 {v3 v16 v20 v38 v546 k} (h : ∀ r, St X R G K c (tail 51) ⊢ run c (k r) Q) :
    St X R G K c (tail 48) ⊢ run c (k0_part19 xM hx rM hr gM hg oM ho aM ha bM hb cM hm cc0_scratch3 cc0_scratch4 c v3 v16 v20 v38 v546 >>= k) Q := by
  rw [k0_part19_eq_skeleton]; unfold k0_part19_skel
  simp only [semSignalWord, semWaitWord, Prog.lift, Prog.bind_op, Prog.bind_ret, Prog.pure_eq_ret, wp_deviceId]
  refine go_send_chunk c 48 14 (cS 2) ?_
  refine go_recv c 49 16 ?_
  refine go_sum_last c 50 16 (hsq := squeezes_S1x64x512_S64x512) (hr := fun _ => rfl) shapeCasts_S1x64x512_S64x512 shapeCasts_S64x512_S64x512 ?_
  exact h _

theorem part20 {v3 v8 v20 v38 v577 k} (h : ∀ r1 r2, r2 = cut (chR (ent (lift18 7)).d (qd c + rja (lift18 7)) (gd c + rjb (lift18 7))) (part X (ent (lift18 7)).d (madeOf 7) c) → St X R G K c (tail 53) ⊢ run c (k ⟨r1, r2⟩) Q) :
    St X R G K c (tail 51) ⊢ run c (k0_part20 xM hx rM hr gM hg oM ho aM ha bM hb cM hm cc0_scratch3 cc0_scratch4 c v3 v8 v20 v38 v577 >>= k) Q := by
  rw [k0_part20_eq_skeleton]; unfold k0_part20_skel
  simp only [semSignalWord, semWaitWord, Prog.lift, Prog.bind_op, Prog.bind_ret, Prog.pure_eq_ret, wp_deviceId]
  refine go_send_chunk c 51 17 (cS 5) ?_
  refine go_recv c 52 7 ?_
  refine ld_sum_chunk c 53 7 (hsq := squeezes_S1x64x512_S64x512) (hr := fun _ => rfl) shapeCasts_S1x64x512_S64x512 shapeCasts_S64x512_S64x512 (fun v w hv => ?_)
  exact h _ _ hv

theorem part21 {v3 v12 v16 v38 v602 v608 k} (hv : v608 = cut (chR (ent (lift18 7)).d (qd c + rja (lift18 7)) (gd c + rjb (lift18 7))) (part X (ent (lift18 7)).d (madeOf 7) c)) (h : ∀ r, St X R G K c (tail 57) ⊢ run c (k r) Q) :
    St X R G K c (tail 53) ⊢ run c (k0_part21 xM hx rM hr gM hg oM ho aM ha bM hb cM hm cc0_scratch3 cc0_scratch4 c v3 v12 v16 v38 v602 v608 >>= k) Q := by
  rw [k0_part21_eq_skeleton]; unfold k0_part21_skel
  simp only [semSignalWord, semWaitWord, Prog.lift, Prog.bind_op, Prog.bind_ret, Prog.pure_eq_ret, wp_deviceId]
  refine go_st_chunk c 53 7 (by exact hv) ?_
  refine go_recv c 54 11 ?_
  refine go_sum_chunk c 55 11 (hsq := squeezes_S1x64x512_S64x512) (hr := fun _ => rfl) shapeCasts_S1x64x512_S64x512 shapeCasts_S64x512_S64x512 ?_
  refine go_recv c 56 14 ?_
  exact h _

theorem part22 {v3 v20 v38 w k} (h : ∀ r, r = cut (chR (ent (lift18 17)).d (qd c + rja (lift18 17)) (gd c + rjb (lift18 17))) (part X (ent (lift18 17)).d (madeOf 17) c) → St X R G K c (tail 59) ⊢ run c (k r) Q) :
    St X R G K c (tail 57) ⊢ run c (k0_part22 xM hx rM hr gM hg oM ho aM ha bM hb cM hm cc0_scratch3 cc0_scratch4 c v3 v20 v38 w >>= k) Q := by
  rw [k0_part22_eq_skeleton]; unfold k0_part22_skel
  simp only [semSignalWord, semWaitWord, Prog.lift, Prog.bind_op, Prog.bind_ret, Prog.pure_eq_ret, wp_deviceId]
  refine go_sum_last c 57 14 (hsq := squeezes_S1x64x512_S64x512) (hr := fun _ => rfl) shapeCasts_S1x64x512_S64x512 shapeCasts_S64x512_S64x512 ?_
  refine go_recv c 58 17 ?_
  refine ld_sum_last c 59 17 (hsq := squeezes_S1x64x512_S64x512) (hr := fun _ => rfl) shapeCasts_S1x64x512_S64x512 shapeCasts_S64x512_S64x512 (fun v w hv => ?_)
  exact h _ hv

theorem part23 {v3 v16 v38 v669 k} (hv : v669 = cut (chR (ent (lift18 17)).d (qd c + rja (lift18 17)) (gd c + rjb (lift18 17))) (part X (ent (lift18 17)).d (madeOf 17) c)) (h : St X R G K c (tail 61) ⊢ run c (k ⟨⟩) Q) :
    St X R G K c (tail 59) ⊢ run c (k0_part23 xM hx rM hr gM hg oM ho aM ha bM hb cM hm cc0_scratch3 cc0_scratch4 c v3 v16 v38 v669 >>= k) Q := by
  rw [k0_part23_eq_skeleton]; unfold k0_part23_skel
  simp only [semSignalWord, semWaitWord, Prog.lift, Prog.bind_op, Prog.bind_ret, Prog.pure_eq_ret, wp_deviceId]
  refine go_st_chunk c 59 17 (by exact hv) ?_
  rw [tail_cons 60 .norm rfl]
  refine step_norm c (norm_off c) ?_
  exact h

theorem part24 {v3 v4 v8 v20 v38 k} (h : St X R G K c (tail 63) ⊢ run c (k ⟨⟩) Q) :
    St X R G K c (tail 61) ⊢ run c (k0_part24 xM hx rM hr gM hg oM ho aM ha bM hb cM hm cc0_scratch3 cc0_scratch4 c v3 v4 v8 v20 v38 >>= k) Q := by
  rw [k0_part24_eq_skeleton]; unfold k0_part24_skel
  simp only [semSignalWord, semWaitWord, Prog.lift, Prog.bind_op, Prog.bind_ret, Prog.pure_eq_ret, wp_deviceId]
  refine go_send_out c 61 18 ?_
  refine go_send_out c 62 24 ?_
  exact h

theorem part25 {v3 v4 v8 v12 k} (h : ∀ r1 r2 r3, St X R G K c (tail 66) ⊢ run c (k ⟨r1, r2, r3⟩) Q) :
    St X R G K c (tail 63) ⊢ run c (k0_part25 xM hx rM hr gM hg oM ho aM ha bM hb cM hm cc0_scratch3 cc0_scratch4 c v3 v4 v8 v12 >>= k) Q := by
  rw [k0_part25_eq_skeleton]; unfold k0_part25_skel
  simp only [semSignalWord, semWaitWord, Prog.lift, Prog.bind_op, Prog.bind_ret, Prog.pure_eq_ret, wp_deviceId]
  refine go_send_out c 63 21 ?_
  refine go_send_out c 64 36 ?_
  refine go_recv c 65 24 ?_
  exact h _ _ _

theorem part26 {v3 v4 v8 v12 v766 v770 w k} (h : St X R G K c (tail 68) ⊢ run c (k ⟨⟩) Q) :
    St X R G K c (tail 66) ⊢ run c (k0_part26 xM hx rM hr gM hg oM ho aM ha bM hb cM hm cc0_scratch3 cc0_scratch4 c v3 v4 v8 v12 v766 v770 w >>= k) Q := by
  rw [k0_part26_eq_skeleton]; unfold k0_part26_skel
  simp only [semSignalWord, semWaitWord, Prog.lift, Prog.bind_op, Prog.bind_ret, Prog.pure_eq_ret, wp_deviceId]
  refine go_send_out c 66 25 ?_
  refine go_recv c 67 36 ?_
  exact h

theorem part27 {v3 v4 v16 v38 k} (h : ∀ r1 r2 r3, St X R G K c (tail 71) ⊢ run c (k ⟨r1, r2, r3⟩) Q) :
    St X R G K c (tail 68) ⊢ run c (k0_part27 xM hx rM hr gM hg oM ho aM ha bM hb cM hm cc0_scratch3 cc0_scratch4 c v3 v4 v16 v38 >>= k) Q := by
  rw [k0_part27_eq_skeleton]; unfold k0_part27_skel
  simp only [semSignalWord, semWaitWord, Prog.lift, Prog.bind_op, Prog.bind_ret, Prog.pure_eq_ret, wp_deviceId]
  refine go_send_out c 68 37 ?_
  refine go_recv c 69 18 ?_
  refine go_send_out c 70 19 ?_
  exact h _ _ _

theorem part28 {v3 v8 v20 v38 v827 v832 w k} (h : ∀ r, St X R G K c (tail 74) ⊢ run c (k r) Q) :
    St X R G K c (tail 71) ⊢ run c (k0_part28 xM hx rM hr gM hg oM ho aM ha bM hb cM hm cc0_scratch3 cc0_scratch4 c v3 v8 v20 v38 v827 v832 w >>= k) Q := by
  rw [k0_part28_eq_skeleton]; unfold k0_part28_skel
  simp only [semSignalWord, semWaitWord, Prog.lift, Prog.bind_op, Prog.bind_ret, Prog.pure_eq_ret, wp_deviceId]
  refine go_send_out c 71 27 ?_
  refine go_recv c 72 21 ?_
  refine go_send_out c 73 22 ?_
  exact h _

theorem part29 {v3 v4 v8 v12 v864 k} (h : ∀ r, St X R G K c (tail 76) ⊢ run c (k r) Q) :
    St X R G K c (tail 74) ⊢ run c (k0_part29 xM hx rM hr gM hg oM ho aM ha bM hb cM hm cc0_scratch3 cc0_scratch4 c v3 v4 v8 v12 v864 >>= k) Q := by
  rw [k0_part29_eq_skeleton]; unfold k0_part29_skel
  simp only [semSignalWord, semWaitWord, Prog.lift, Prog.bind_op, Prog.bind_ret, Prog.pure_eq_ret, wp_deviceId]
  refine go_send_out c 74 39 ?_
  refine go_recv c 75 25 ?_
  exact h _

theorem part30 {v3 v4 v8 v12 v894 k} (h : St X R G K c (tail 79) ⊢ run c (k ⟨⟩) Q) :
    St X R G K c (tail 76) ⊢ run c (k0_part30 xM hx rM hr gM hg oM ho aM ha bM hb cM hm cc0_scratch3 cc0_scratch4 c v3 v4 v8 v12 v894 >>= k) Q := by
  rw [k0_part30_eq_skeleton]; unfold k0_part30_skel
  simp only [semSignalWord, semWaitWord, Prog.lift, Prog.bind_op, Prog.bind_ret, Prog.pure_eq_ret, wp_deviceId]
  refine go_send_out c 76 26 ?_
  refine go_recv c 77 37 ?_
  refine go_send_out c 78 38 ?_
  exact h

theorem part31 {v3 v4 v8 v12 k} (h : ∀ r, St X R G K c (tail 82) ⊢ run c (k r) Q) :
    St X R G K c (tail 79) ⊢ run c (k0_part31 xM hx rM hr gM hg oM ho aM ha bM hb cM hm cc0_scratch3 cc0_scratch4 c v3 v4 v8 v12 >>= k) Q := by
  rw [k0_part31_eq_skeleton]; unfold k0_part31_skel
  simp only [semSignalWord, semWaitWord, Prog.lift, Prog.bind_op, Prog.bind_ret, Prog.pure_eq_ret, wp_deviceId]
  refine go_recv c 79 27 ?_
  refine go_send_out c 80 28 ?_
  refine go_recv c 81 39 ?_
  exact h _

theorem part32 {v3 v4 v12 v16 v38 v956 k} (h : St X R G K c (tail 84) ⊢ run c (k ⟨⟩) Q) :
    St X R G K c (tail 82) ⊢ run c (k0_part32 xM hx rM hr gM hg oM ho aM ha bM hb cM hm cc0_scratch3 cc0_scratch4 c v3 v4 v12 v16 v38 v956 >>= k) Q := by
  rw [k0_part32_eq_skeleton]; unfold k0_part32_skel
  simp only [semSignalWord, semWaitWord, Prog.lift, Prog.bind_op, Prog.bind_ret, Prog.pure_eq_ret, wp_deviceId]
  refine go_send_out c 82 40 ?_
  refine go_recv c 83 19 ?_
  exact h

end Cert.Plan

end

end
-- ==== Proof.BodyC.lean ====
/-
  The last parts: the remaining results and the waits at the end.
-/
module

public import proofs.«01_k».proof.Proof.Acts

@[expose] public section

noncomputable section

namespace Cert.Plan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X R : Dev nD → Vec F S1024x1024 .f32} {G : Dev nD → Vec F S1x1024 .f32}
variable {K : Dev nD × Fin 97 → ℕ}
variable {α : Type} {Q : α → sProp (MT nD τ sig Unit (Elt F) ℕ UU ℕ)} (c : Dev nD)
variable {hx : xM.IsWhole} {hr : rM.IsWhole} {hg : gM.IsWhole} {ho : oM.IsWhole} {ha : aM.IsWhole} {hb : bM.IsWhole} {hm : cM.IsWhole}

theorem part33 {v3 v4 v8 v20 k} (h : ∀ r, St X R G K c (tail 87) ⊢ run c (k r) Q) :
    St X R G K c (tail 84) ⊢ run c (k0_part33 xM hx rM hr gM hg oM ho aM ha bM hb cM hm cc0_scratch3 cc0_scratch4 c v3 v4 v8 v20 >>= k) Q := by
  rw [k0_part33_eq_skeleton]; unfold k0_part33_skel
  simp only [semSignalWord, semWaitWord, Prog.lift, Prog.bind_op, Prog.bind_ret, Prog.pure_eq_ret, wp_deviceId]
  refine go_send_out c 84 20 ?_
  refine go_send_out c 85 30 ?_
  refine go_recv c 86 22 ?_
  exact h _

theorem part34 {v3 v4 v8 v12 v20 v38 v1018 k} (h : St X R G K c (tail 89) ⊢ run c (k ⟨⟩) Q) :
    St X R G K c (tail 87) ⊢ run c (k0_part34 xM hx rM hr gM hg oM ho aM ha bM hb cM hm cc0_scratch3 cc0_scratch4 c v3 v4 v8 v12 v20 v38 v1018 >>= k) Q := by
  rw [k0_part34_eq_skeleton]; unfold k0_part34_skel
  simp only [semSignalWord, semWaitWord, Prog.lift, Prog.bind_op, Prog.bind_ret, Prog.pure_eq_ret, wp_deviceId]
  refine go_send_out c 87 23 ?_
  refine go_send_out c 88 42 ?_
  exact h

theorem part35 {v3 v4 v8 v12 k} (h : ∀ r, St X R G K c (tail 92) ⊢ run c (k r) Q) :
    St X R G K c (tail 89) ⊢ run c (k0_part35 xM hx rM hr gM hg oM ho aM ha bM hb cM hm cc0_scratch3 cc0_scratch4 c v3 v4 v8 v12 >>= k) Q := by
  rw [k0_part35_eq_skeleton]; unfold k0_part35_skel
  simp only [semSignalWord, semWaitWord, Prog.lift, Prog.bind_op, Prog.bind_ret, Prog.pure_eq_ret, wp_deviceId]
  refine go_recv c 89 28 ?_
  refine go_send_out c 90 29 ?_
  refine go_recv c 91 40 ?_
  exact h _

theorem part36 {v3 v4 v8 v12 v1080 k} (h : St X R G K c (tail 94) ⊢ run c (k ⟨⟩) Q) :
    St X R G K c (tail 92) ⊢ run c (k0_part36 xM hx rM hr gM hg oM ho aM ha bM hb cM hm cc0_scratch3 cc0_scratch4 c v3 v4 v8 v12 v1080 >>= k) Q := by
  rw [k0_part36_eq_skeleton]; unfold k0_part36_skel
  simp only [semSignalWord, semWaitWord, Prog.lift, Prog.bind_op, Prog.bind_ret, Prog.pure_eq_ret, wp_deviceId]
  refine go_send_out c 92 41 ?_
  refine go_recv c 93 30 ?_
  exact h

theorem part37 {v3 v4 v8 v12 k} (h : St X R G K c (tail 97) ⊢ run c (k ⟨⟩) Q) :
    St X R G K c (tail 94) ⊢ run c (k0_part37 xM hx rM hr gM hg oM ho aM ha bM hb cM hm cc0_scratch3 cc0_scratch4 c v3 v4 v8 v12 >>= k) Q := by
  rw [k0_part37_eq_skeleton]; unfold k0_part37_skel
  simp only [semSignalWord, semWaitWord, Prog.lift, Prog.bind_op, Prog.bind_ret, Prog.pure_eq_ret, wp_deviceId]
  refine go_send_out c 94 31 ?_
  refine go_recv c 95 42 ?_
  refine go_send_out c 96 43 ?_
  exact h

theorem part38 {v3 v4 v16 v38 k} (h : ∀ r1 r2 r3 r4, St X R G K c (tail 99) ⊢ run c (k ⟨r1, r2, r3, r4⟩) Q) :
    St X R G K c (tail 97) ⊢ run c (k0_part38 xM hx rM hr gM hg oM ho aM ha bM hb cM hm cc0_scratch3 cc0_scratch4 c v3 v4 v16 v38 >>= k) Q := by
  rw [k0_part38_eq_skeleton]; unfold k0_part38_skel
  simp only [semSignalWord, semWaitWord, Prog.lift, Prog.bind_op, Prog.bind_ret, Prog.pure_eq_ret, wp_deviceId]
  refine go_recv c 97 20 ?_
  refine go_send_out c 98 33 ?_
  exact h _ _ _ _

theorem part39 {v3 v4 v38 v1171 v1172 v1173 k} (h : ∀ r1 r2, St X R G K c (tail 101) ⊢ run c (k ⟨r1, r2⟩) Q) :
    St X R G K c (tail 99) ⊢ run c (k0_part39 xM hx rM hr gM hg oM ho aM ha bM hb cM hm cc0_scratch3 cc0_scratch4 c v3 v4 v38 v1171 v1172 v1173 >>= k) Q := by
  rw [k0_part39_eq_skeleton]; unfold k0_part39_skel
  simp only [semSignalWord, semWaitWord, Prog.lift, Prog.bind_op, Prog.bind_ret, Prog.pure_eq_ret, wp_deviceId]
  refine go_send_out c 99 34 ?_
  refine go_send_out c 100 35 ?_
  exact h _ _

theorem part40 {v3 v4 v20 v38 k} (h : ∀ r1 r2 r3 r4, St X R G K c (tail 103) ⊢ run c (k ⟨r1, r2, r3, r4⟩) Q) :
    St X R G K c (tail 101) ⊢ run c (k0_part40 xM hx rM hr gM hg oM ho aM ha bM hb cM hm cc0_scratch3 cc0_scratch4 c v3 v4 v20 v38 >>= k) Q := by
  rw [k0_part40_eq_skeleton]; unfold k0_part40_skel
  simp only [semSignalWord, semWaitWord, Prog.lift, Prog.bind_op, Prog.bind_ret, Prog.pure_eq_ret, wp_deviceId]
  refine go_recv c 101 23 ?_
  refine go_send_out c 102 45 ?_
  exact h _ _ _ _

theorem part41 {v3 v4 v8 v38 v1233 v1234 v1237 k} (h : ∀ r1 r2 r3, St X R G K c (tail 105) ⊢ run c (k ⟨r1, r2, r3⟩) Q) :
    St X R G K c (tail 103) ⊢ run c (k0_part41 xM hx rM hr gM hg oM ho aM ha bM hb cM hm cc0_scratch3 cc0_scratch4 c v3 v4 v8 v38 v1233 v1234 v1237 >>= k) Q := by
  rw [k0_part41_eq_skeleton]; unfold k0_part41_skel
  simp only [semSignalWord, semWaitWord, Prog.lift, Prog.bind_op, Prog.bind_ret, Prog.pure_eq_ret, wp_deviceId]
  refine go_send_out c 103 46 ?_
  refine go_send_out c 104 47 ?_
  exact h _ _ _

theorem part42 {v3 v4 v8 v12 v1269 k} (h : ∀ r, St X R G K c (tail 108) ⊢ run c (k r) Q) :
    St X R G K c (tail 105) ⊢ run c (k0_part42 xM hx rM hr gM hg oM ho aM ha bM hb cM hm cc0_scratch3 cc0_scratch4 c v3 v4 v8 v12 v1269 >>= k) Q := by
  rw [k0_part42_eq_skeleton]; unfold k0_part42_skel
  simp only [semSignalWord, semWaitWord, Prog.lift, Prog.bind_op, Prog.bind_ret, Prog.pure_eq_ret, wp_deviceId]
  refine go_recv c 105 31 ?_
  refine go_send_out c 106 32 ?_
  refine go_recv c 107 43 ?_
  exact h _

theorem part43 {v4 v12 v1157 v1176 v1195 v1300 k} (h : ∀ r, St X R G K c (tail 111) ⊢ run c (k r) Q) :
    St X R G K c (tail 108) ⊢ run c (k0_part43 xM hx rM hr gM hg oM ho aM ha bM hb cM hm cc0_scratch3 cc0_scratch4 c v4 v12 v1157 v1176 v1195 v1300 >>= k) Q := by
  rw [k0_part43_eq_skeleton]; unfold k0_part43_skel
  simp only [semSignalWord, semWaitWord, Prog.lift, Prog.bind_op, Prog.bind_ret, Prog.pure_eq_ret, wp_deviceId]
  refine go_send_out c 108 44 ?_
  refine go_recv c 109 33 ?_
  refine go_recv c 110 34 ?_
  exact h _

theorem part44 {v8 v1220 v1239 v1258 v1329 k} (h : St X R G K c (tail 115) ⊢ run c (k ⟨⟩) Q) :
    St X R G K c (tail 111) ⊢ run c (k0_part44 xM hx rM hr gM hg oM ho aM ha bM hb cM hm cc0_scratch3 cc0_scratch4 c v8 v1220 v1239 v1258 v1329 >>= k) Q := by
  rw [k0_part44_eq_skeleton]; unfold k0_part44_skel
  simp only [semSignalWord, semWaitWord, Prog.lift, Prog.bind_op, Prog.bind_ret, Prog.pure_eq_ret, wp_deviceId]
  refine go_recv c 111 35 ?_
  refine go_recv c 112 45 ?_
  refine go_recv c 113 46 ?_
  refine go_recv c 114 47 ?_
  exact h

theorem part45 {v8 v12 k} (h : St X R G K c (tail 120) ⊢ run c (k ⟨⟩) Q) :
    St X R G K c (tail 115) ⊢ run c (k0_part45 xM hx rM hr gM hg oM ho aM ha bM hb cM hm cc0_scratch3 cc0_scratch4 c v8 v12 >>= k) Q := by
  rw [k0_part45_eq_skeleton]; unfold k0_part45_skel
  simp only [semSignalWord, semWaitWord, Prog.lift, Prog.bind_op, Prog.bind_ret, Prog.pure_eq_ret, wp_deviceId]
  refine go_recv c 115 26 ?_
  refine go_recv c 116 29 ?_
  refine go_recv c 117 32 ?_
  refine go_recv c 118 38 ?_
  refine go_recv c 119 41 ?_
  exact h

theorem part46 {k} (h : St X R G K c (tail 125) ⊢ run c (k ⟨⟩) Q) :
    St X R G K c (tail 120) ⊢ run c (k0_part46 xM hx rM hr gM hg oM ho aM ha bM hb cM hm cc0_scratch3 cc0_scratch4 c >>= k) Q := by
  rw [k0_part46_eq_skeleton]; unfold k0_part46_skel
  simp only [semSignalWord, semWaitWord, Prog.lift, Prog.bind_op, Prog.bind_ret, Prog.pure_eq_ret, wp_deviceId]
  refine go_recv c 120 44 ?_
  refine go_swait c 121 0 ?_
  refine go_swait c 122 2 ?_
  refine go_swait c 123 1 ?_
  refine go_swait c 124 3 ?_
  exact h

theorem part47 {k} (h : St X R G K c (tail 129) ⊢ run c (k ⟨⟩) Q) :
    St X R G K c (tail 125) ⊢ run c (k0_part47 xM hx rM hr gM hg oM ho aM ha bM hb cM hm cc0_scratch3 cc0_scratch4 c >>= k) Q := by
  rw [k0_part47_eq_skeleton]; unfold k0_part47_skel
  simp only [semSignalWord, semWaitWord, Prog.lift, Prog.bind_op, Prog.bind_ret, Prog.pure_eq_ret, wp_deviceId]
  refine go_swait c 125 4 ?_
  refine go_swait c 126 8 ?_
  refine go_swait c 127 12 ?_
  refine go_swait c 128 5 ?_
  exact h

theorem part48 {k} (h : St X R G K c (tail 134) ⊢ run c (k ⟨⟩) Q) :
    St X R G K c (tail 129) ⊢ run c (k0_part48 xM hx rM hr gM hg oM ho aM ha bM hb cM hm cc0_scratch3 cc0_scratch4 c >>= k) Q := by
  rw [k0_part48_eq_skeleton]; unfold k0_part48_skel
  simp only [semSignalWord, semWaitWord, Prog.lift, Prog.bind_op, Prog.bind_ret, Prog.pure_eq_ret, wp_deviceId]
  refine go_swait c 129 15 ?_
  refine go_swait c 130 9 ?_
  refine go_swait c 131 6 ?_
  refine go_swait c 132 10 ?_
  refine go_swait c 133 13 ?_
  exact h

theorem part49 {k} (h : St X R G K c (tail 139) ⊢ run c (k ⟨⟩) Q) :
    St X R G K c (tail 134) ⊢ run c (k0_part49 xM hx rM hr gM hg oM ho aM ha bM hb cM hm cc0_scratch3 cc0_scratch4 c >>= k) Q := by
  rw [k0_part49_eq_skeleton]; unfold k0_part49_skel
  simp only [semSignalWord, semWaitWord, Prog.lift, Prog.bind_op, Prog.bind_ret, Prog.pure_eq_ret, wp_deviceId]
  refine go_swait c 134 16 ?_
  refine go_swait c 135 7 ?_
  refine go_swait c 136 11 ?_
  refine go_swait c 137 14 ?_
  refine go_swait c 138 17 ?_
  exact h

theorem part50 {k} (h : St X R G K c (tail 145) ⊢ run c (k ⟨⟩) Q) :
    St X R G K c (tail 139) ⊢ run c (k0_part50 xM hx rM hr gM hg oM ho aM ha bM hb cM hm cc0_scratch3 cc0_scratch4 c >>= k) Q := by
  rw [k0_part50_eq_skeleton]; unfold k0_part50_skel
  simp only [semSignalWord, semWaitWord, Prog.lift, Prog.bind_op, Prog.bind_ret, Prog.pure_eq_ret, wp_deviceId]
  refine go_swait c 139 18 ?_
  refine go_swait c 140 24 ?_
  refine go_swait c 141 21 ?_
  refine go_swait c 142 36 ?_
  refine go_swait c 143 25 ?_
  refine go_swait c 144 37 ?_
  exact h

theorem part51 {k} (h : St X R G K c (tail 151) ⊢ run c (k ⟨⟩) Q) :
    St X R G K c (tail 145) ⊢ run c (k0_part51 xM hx rM hr gM hg oM ho aM ha bM hb cM hm cc0_scratch3 cc0_scratch4 c >>= k) Q := by
  rw [k0_part51_eq_skeleton]; unfold k0_part51_skel
  simp only [semSignalWord, semWaitWord, Prog.lift, Prog.bind_op, Prog.bind_ret, Prog.pure_eq_ret, wp_deviceId]
  refine go_swait c 145 19 ?_
  refine go_swait c 146 27 ?_
  refine go_swait c 147 22 ?_
  refine go_swait c 148 39 ?_
  refine go_swait c 149 26 ?_
  refine go_swait c 150 38 ?_
  exact h

theorem part52 {k} (h : St X R G K c (tail 157) ⊢ run c (k ⟨⟩) Q) :
    St X R G K c (tail 151) ⊢ run c (k0_part52 xM hx rM hr gM hg oM ho aM ha bM hb cM hm cc0_scratch3 cc0_scratch4 c >>= k) Q := by
  rw [k0_part52_eq_skeleton]; unfold k0_part52_skel
  simp only [semSignalWord, semWaitWord, Prog.lift, Prog.bind_op, Prog.bind_ret, Prog.pure_eq_ret, wp_deviceId]
  refine go_swait c 151 28 ?_
  refine go_swait c 152 40 ?_
  refine go_swait c 153 20 ?_
  refine go_swait c 154 30 ?_
  refine go_swait c 155 23 ?_
  refine go_swait c 156 42 ?_
  exact h

theorem part53 {k} (h : St X R G K c (tail 163) ⊢ run c (k ⟨⟩) Q) :
    St X R G K c (tail 157) ⊢ run c (k0_part53 xM hx rM hr gM hg oM ho aM ha bM hb cM hm cc0_scratch3 cc0_scratch4 c >>= k) Q := by
  rw [k0_part53_eq_skeleton]; unfold k0_part53_skel
  simp only [semSignalWord, semWaitWord, Prog.lift, Prog.bind_op, Prog.bind_ret, Prog.pure_eq_ret, wp_deviceId]
  refine go_swait c 157 29 ?_
  refine go_swait c 158 41 ?_
  refine go_swait c 159 31 ?_
  refine go_swait c 160 43 ?_
  refine go_swait c 161 33 ?_
  refine go_swait c 162 34 ?_
  exact h

theorem part54 {k} (h : St X R G K c (tail 169) ⊢ run c (k ⟨⟩) Q) :
    St X R G K c (tail 163) ⊢ run c (k0_part54 xM hx rM hr gM hg oM ho aM ha bM hb cM hm cc0_scratch3 cc0_scratch4 c >>= k) Q := by
  rw [k0_part54_eq_skeleton]; unfold k0_part54_skel
  simp only [semSignalWord, semWaitWord, Prog.lift, Prog.bind_op, Prog.bind_ret, Prog.pure_eq_ret, wp_deviceId]
  refine go_swait c 163 35 ?_
  refine go_swait c 164 45 ?_
  refine go_swait c 165 46 ?_
  refine go_swait c 166 47 ?_
  refine go_swait c 167 32 ?_
  refine go_swait c 168 44 ?_
  exact h

end Cert.Plan

end

end
-- ==== Proof.Body.lean ====
/-
  The whole program, one part after the other.
-/
module

public import proofs.«01_k».proof.Proof.BodyA
public import proofs.«01_k».proof.Proof.BodyB
public import proofs.«01_k».proof.Proof.BodyC

@[expose] public section

noncomputable section

namespace Cert.Plan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X R : Dev nD → Vec F S1024x1024 .f32} {G : Dev nD → Vec F S1x1024 .f32}
variable {K : Dev nD × Fin 97 → ℕ}

/-- From all the actions to none. -/
theorem body_run (c : Dev nD) {hx : xM.IsWhole} {hr : rM.IsWhole} {hg : gM.IsWhole} {ho : oM.IsWhole} {ha : aM.IsWhole} {hb : bM.IsWhole} {hm : cM.IsWhole} :
    St X R G K c (tail 0) ⊢ run c (cc0_body (F := F) xM hx rM hr gM hg oM ho aM ha bM hb cM hm cc0_scratch3 cc0_scratch4) (fun _ => St X R G K c []) := by
  rw [cc0_body_eq_skeleton]; unfold cc0_body_skel
  refine part1 c (fun _ _ _ _ _ _ _ _ => ?_)
  refine part2 c (fun _ => ?_)
  refine part3 c (fun _ => ?_)
  refine part4 c (fun _ _ _ hv => ?_)
  refine part5 c hv (fun _ => ?_)
  refine part6 c ?_
  refine part7 c ?_
  refine part8 c ?_
  refine part9 c (fun _ => ?_)
  refine part10 c (fun _ => ?_)
  refine part11 c (fun _ _ => ?_)
  refine part12 c (fun _ _ _ hv => ?_)
  refine part13 c hv (fun _ _ => ?_)
  refine part14 c (fun _ => ?_)
  refine part15 c ?_
  refine part16 c ?_
  refine part17 c ?_
  refine part18 c (fun _ => ?_)
  refine part19 c (fun _ => ?_)
  refine part20 c (fun _ _ hv => ?_)
  refine part21 c hv (fun _ => ?_)
  refine part22 c (fun _ hv => ?_)
  refine part23 c hv ?_
  refine part24 c ?_
  refine part25 c (fun _ _ _ => ?_)
  refine part26 c ?_
  refine part27 c (fun _ _ _ => ?_)
  refine part28 c (fun _ => ?_)
  refine part29 c (fun _ => ?_)
  refine part30 c ?_
  refine part31 c (fun _ => ?_)
  refine part32 c ?_
  refine part33 c (fun _ => ?_)
  refine part34 c ?_
  refine part35 c (fun _ => ?_)
  refine part36 c ?_
  refine part37 c ?_
  refine part38 c (fun _ _ _ _ => ?_)
  refine part39 c (fun _ _ => ?_)
  refine part40 c (fun _ _ _ _ => ?_)
  refine part41 c (fun _ _ _ => ?_)
  refine part42 c (fun _ => ?_)
  refine part43 c (fun _ => ?_)
  refine part44 c ?_
  refine part45 c ?_
  refine part46 c ?_
  refine part47 c ?_
  refine part48 c ?_
  refine part49 c ?_
  refine part50 c ?_
  refine part51 c ?_
  refine part52 c ?_
  refine part53 c ?_
  refine part54 c ?_
  unfold run
  rw [Prog.pure_eq_ret, wp_ret]
  exact fupd_intro ..

end Cert.Plan

end

end
-- ==== Proof.Launch.lean ====
/-
  The launch: every execution of the program ends, each device's result array holds `total`, the operands hold what they
  held, and every counter is at zero.
-/
module

public import Idealize.ShloMosaic.Lib.Pipeline.CollectiveSegs
public import proofs.«01_k».proof.Proof.Deal
public import proofs.«01_k».proof.Proof.Body
public import proofs.«01_k».proof.Proof.Gen.KernelIdeal.Points

@[expose] public section

noncomputable section

namespace Cert.Plan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## The operands and the pipeline's data -/

def Xv (c : Dev nD) : Vec F S1024x1024 .f32 := (win0_0.blk (0 : Fin 1)).view.read (Elt F) ((s₀ m ρ).mem ((c : Thread nD τ).loc main_arg0))
def Rv (c : Dev nD) : Vec F S1024x1024 .f32 := (win0_1.blk (0 : Fin 1)).view.read (Elt F) ((s₀ m ρ).mem ((c : Thread nD τ).loc main_arg1))
def Gv (c : Dev nD) : Vec F S1x1024 .f32 := (win0_2.blk (0 : Fin 1)).view.read (Elt F) ((s₀ m ρ).mem ((c : Thread nD τ).loc main_arg2))
/-- The result on every device. -/
def Tv : Vec F S1024x1024 .f32 := total (Xv m ρ) (Rv m ρ) (Gv m ρ)

/-- What device `c`'s program starts from, beside the arrays, -/
def start (c : Dev nD) : sProp 𝕄 := iprop((∃ K, recs (Xv m ρ) (Rv m ρ) (Gv m ρ) K) ∗ many (ghost c) (tail 0))
def Φ₀ (c : Dev nD) : sProp 𝕄 := iprop(start m ρ c ∗ scratch c)
/-- and what it leaves. -/
def Φ₁ (c : Dev nD) : sProp 𝕄 := iprop(scratch c ∗ semVal (barCell c) 0 ∗ many (fun k => semVal (sendCell c k) 0) (List.finRange 48)
    ∗ many (fun k => semVal (recvCell c k) 0) (List.finRange 48))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xv m ρ c
    | ⟨1, _⟩ => Rv m ρ c
    | ⟨2, _⟩ => Gv m ρ c
    | ⟨3, _⟩ => Tv m ρ
  Φ t := match t with
    | ⟨0, _⟩ => Φ₀ m ρ c
    | ⟨_ + 1, _⟩ => Φ₁ c
  q _ := fullShare
  owed t := match t with
    | ⟨0, _⟩ => due c (tail 0)
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ c ∗ (dats m ρ 0 c).owesAt () t0_0.succ ∗ stg c cc0_stg0_0 (Xv m ρ c) ∗ stg c cc0_stg1_0 (Rv m ρ c) ∗ stg c cc0_stg2_0 (Gv m ρ c)
    ∗ stg c cc0_stg3_0 (Tv m ρ))

theorem pre_state (c : Dev nD) : bodyPre m ρ c ⊢ iprop(∃ K, St (Xv m ρ) (Rv m ρ) (Gv m ρ) K c (tail 0)) := by
  unfold bodyPre Φ₀ start
  iintro ⟨⟨⟨⟨%K, HK⟩, Hgh⟩, Hscr⟩, Ho, ⟨%d0, %g0, %hg0, Hx⟩, ⟨%d1, %g1, %hg1, Hr⟩, ⟨%d2, %g2, %hg2, Hg⟩, ⟨%d3, %g3, %hg3, Hout⟩⟩
  have hx : g0 = Xv m ρ c := by rw [hg0]; unfold Dat.before; rw [if_pos (fetch0_0 t0_0)]; rfl
  have hr : g1 = Rv m ρ c := by rw [hg1]; unfold Dat.before; rw [if_pos (fetch0_1 t0_0)]; rfl
  have hg : g2 = Gv m ρ c := by rw [hg2]; unfold Dat.before; rw [if_pos (fetch0_2 t0_0)]; rfl
  subst hx; subst hr; subst hg
  unfold Dat.owesAt Pipeline.owesWithin
  icases Ho with ⟨%W, %hW, HO⟩
  iexists K
  iapply (St_begin (Xv m ρ) (Rv m ρ) (Gv m ρ) c K)
  isplitl [HK]; · iexact HK
  isplitl [Hgh]; · iexact Hgh
  isplitl [HO]
  · unfold owing
    iexists W
    iapply (show owes (c : Thread nD τ) ((dats m ρ 0 c).owed t0_0.castSucc) W ⊢ (owes (c : Thread nD τ) (due c (tail 0)) W : sProp 𝕄) from BI.Entails.refl _) $$ HO
  iapply (start_holds (Xv m ρ) (Rv m ρ) (Gv m ρ) c)
  isplitl [Hout]
  · iexists g3
    iapply (show ((((c : Thread nD τ).loc cc0_stg3_0) ↦{fullShare} g3) : sProp 𝕄) ⊢ (oLoc c ↦{fullShare} g3) from BI.Entails.refl _) $$ Hout
  isplitl [Hscr]; · iexact Hscr
  unfold operands
  isplitl [Hx]
  · iapply (show ((((c : Thread nD τ).loc cc0_stg0_0) ↦{fullShare} Xv m ρ c) : sProp 𝕄) ⊢ (xLoc c ↦{fullShare} Xv m ρ c) from BI.Entails.refl _) $$ Hx
  isplitl [Hr]
  · iapply (show ((((c : Thread nD τ).loc cc0_stg1_0) ↦{fullShare} Rv m ρ c) : sProp 𝕄) ⊢ (rM.view.loc (c : Thread nD τ) ↦{fullShare} Rv m ρ c) from BI.Entails.refl _) $$ Hr
  iapply (show ((((c : Thread nD τ).loc cc0_stg2_0) ↦{fullShare} Gv m ρ c) : sProp 𝕄) ⊢ (gM.view.loc (c : Thread nD τ) ↦{fullShare} Gv m ρ c) from BI.Entails.refl _) $$ Hg

theorem stg_intro (c : Dev nD) (b : Ref sig .tc) (f : b.ty.Contents (Elt F)) : ((((c : Thread nD τ).loc b) ↦{fullShare} f) : sProp 𝕄) ⊢ stg c b f := by
  iintro H
  iexists f
  isplitr; · ipureintro; rfl
  iexact H

def zeroIdx : S1024x1024.Idx := fun a => ⟨0, by revert a; decide⟩

theorem state_post (K : Dev nD × Fin 97 → ℕ) (c : Dev nD) : St (Xv m ρ) (Rv m ρ) (Gv m ρ) K c [] ⊢ bodyPost m ρ c := by
  refine (St_end (Xv m ρ) (Rv m ρ) (Gv m ρ) c K).trans ?_
  unfold bodyPost Φ₁
  iintro ⟨Ho, Hsh⟩
  ihave H := (finish_holds (Xv m ρ) (Rv m ρ) (Gv m ρ) c (Xv m ρ c zeroIdx)) $$ Hsh
  unfold operands owing
  icases H with ⟨Hout, Hscr, ⟨Hx, Hr, Hg⟩, Hb, Hs, Hv⟩
  icases Ho with ⟨%W, HO⟩
  isplitl [Hscr Hb Hs Hv]
  · isplitl [Hscr]; · iexact Hscr
    isplitl [Hb]; · iexact Hb
    isplitl [Hs]; · iexact Hs
    iexact Hv
  isplitl [HO]
  · unfold Dat.owesAt Pipeline.owesWithin
    iexists W
    isplitr; · ipureintro; exact fun _ _ => Or.inl trivial
    iapply (show (owes (c : Thread nD τ) (due c []) W : sProp 𝕄) ⊢ owes (c : Thread nD τ) ((dats m ρ 0 c).owed t0_0.succ) W from BI.Entails.refl _) $$ HO
  isplitl [Hx]
  · iapply (show (xLoc c ↦{fullShare} Xv m ρ c : sProp 𝕄) ⊢ stg c cc0_stg0_0 (Xv m ρ c) from stg_intro c cc0_stg0_0 _) $$ Hx
  isplitl [Hr]
  · iapply (show (rM.view.loc (c : Thread nD τ) ↦{fullShare} Rv m ρ c : sProp 𝕄) ⊢ stg c cc0_stg1_0 (Rv m ρ c) from stg_intro c cc0_stg1_0 _) $$ Hr
  isplitl [Hg]
  · iapply (show (gM.view.loc (c : Thread nD τ) ↦{fullShare} Gv m ρ c : sProp 𝕄) ⊢ stg c cc0_stg2_0 (Gv m ρ c) from stg_intro c cc0_stg2_0 _) $$ Hg
  iapply (show (oLoc c ↦{fullShare} total (Xv m ρ) (Rv m ρ) (Gv m ρ) : sProp 𝕄) ⊢ stg c cc0_stg3_0 (Tv m ρ) from stg_intro c cc0_stg3_0 _) $$ Hout

abbrev bodyOf : Prog (TpuEff nD τ sig (Elt F) Λ₀ .tc) PUnit :=
  cc0_body (F := F) xM (Memref.isWhole_whole _) rM (Memref.isWhole_whole _) gM (Memref.isWhole_whole _) oM (Memref.isWhole_whole _)
    aM (Memref.isWhole_whole _) bM (Memref.isWhole_whole _) cM (Memref.isWhole_whole _) cc0_scratch3 cc0_scratch4
attribute [local irreducible] cc0_body
theorem body_at : defs₀ (F := F) .tc cfg0.body (cfg0.bodyArgs t0_0 (cfg0.slots t0_0)) = bodyOf := rfl

theorem body_sound (K : Dev nD × Fin 97 → ℕ) (c : Dev nD) :
    St (Xv m ρ) (Rv m ρ) (Gv m ρ) K c (tail 0) ⊢ run c (bodyOf (F := F)) (fun _ => bodyPost m ρ c) := by
  have h := body_run (X := Xv m ρ) (R := Rv m ρ) (G := Gv m ρ) (K := K) c (hx := Memref.isWhole_whole _) (hr := Memref.isWhole_whole _)
    (hg := Memref.isWhole_whole _) (ho := Memref.isWhole_whole _) (ha := Memref.isWhole_whole _) (hb := Memref.isWhole_whole _) (hm := Memref.isWhole_whole _)
  have h' : run c (bodyOf (F := F)) (fun _ => St (Xv m ρ) (Rv m ρ) (Gv m ρ) K c []) ⊢ run c (bodyOf (F := F)) (fun _ => bodyPost m ρ c) :=
    wp_mono _ _ _ fun _ => state_post m ρ K c
  exact BI.Entails.trans h h'

theorem body_holds (c : Dev nD) : bodyPre m ρ c ⊢ run c (bodyOf (F := F)) (fun _ => bodyPost m ρ c) := by
  have h : iprop(∃ K, St (Xv m ρ) (Rv m ρ) (Gv m ρ) K c (tail 0)) ⊢ run c (bodyOf (F := F)) (fun _ => bodyPost m ρ c) := by
    iintro ⟨%K, H⟩
    iapply (body_sound m ρ K c) $$ H
  exact BI.Entails.trans (pre_state m ρ c) h

theorem body_obligation (c : Dev nD) : BodyObligation (dats (F := F) m ρ 0 c) (defs₀ (F := F)) 𝒱₀ () Set.univ := fun t => by
  rw [fin_N0 t, bigSep_W0, bigSep_W0, body_at]
  simp only [owns_whole_eq]
  exact body_holds m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf ringCells ringToks)

abbrev Sc : Rounds.Schedule (GSem nD τ sig) (Fin 5) 𝕄 := Rd (Xv m ρ) (Rv m ρ) (Gv m ρ)

/-- What the launch gives device `c` at first, -/
def dealt (c : Dev nD) : sProp 𝕄 :=
  iprop((bigSep Finset.univ fun k : Fin 97 => roundState ER (Sc m ρ) (kcell (c, k)) 0)
    ∗ (bigSep Finset.univ fun k : Fin 97 => iprop(atPos ER (kcell (c, k)) 0 ∅ 0 ∗ reached ER (kcell (c, k)) 0)) ∗ toks c)
/-- and once the counters are shared. -/
def opened (c : Dev nD) : sProp 𝕄 :=
  iprop((∃ K : Dev nD × Fin 97 → ℕ, (bigSep Finset.univ fun ck : Dev nD × Fin 97 => cellInv ER (Sc m ρ) (K ck) (kcell ck))
    ∗ bigSep Finset.univ fun ck : Dev nD × Fin 97 => reached ER (kcell ck) 0) ∗ payToks c ∗ places c)

theorem fund_ring : BI.own (ER (initOf ringCells ringToks)) ⊢ (|==> bigSep Finset.univ (dealt m ρ) : sProp 𝕄) := by
  have hX (Φ : GSem nD τ sig → sProp 𝕄) : bigSep ringCells Φ = bigSep Finset.univ fun c : Dev nD => bigSep Finset.univ fun k : Fin 97 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Sc m ρ) ringCells ringToks) $$ HX with ⟨Hst, Hr, Hat, Htok⟩
  imodintro
  ihave Hst' := (Entails.of_eq (hX fun g => roundState ER (Sc m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(many (fun k => semVal (sendCell c k) 0) (List.finRange 48) ∗ many (fun k => semVal (recvCell c k) 0) (List.finRange 48)) := by
  unfold Pipeline.ownSems0
  rw [own_cells]
  refine congrArg₂ (fun P Q : sProp 𝕄 => iprop(P ∗ Q)) rfl (many_congr fun k _ => ?_)
  exact congrArg (fun j => (semVal ((c : Thread nD τ), SemLoc.dma j) 0 : sProp 𝕄)) (Fin.ext (by show 4 + (48 + k.val) = 52 + k.val; omega))
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 97 => semVal (kcell (c, k)) 0 : sProp 𝕄) := by
  rw [ownSems0_eq, unscopedSems0_eq, cells_eq fun g => semVal g 0]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv ER (Sc m ρ) κ (kcell (c, k))))
          ∗ (bigSep Finset.univ fun k => iprop(atPos ER (kcell (c, k)) 0 ∅ 0 ∗ reached ER (kcell (c, k)) 0)) ∗ toks c) := by
  unfold dealt
  iintro ⟨Hos, Hus, Hst, Hat, Htok⟩
  ihave Hv := (sems0_eq (F := F) c) $$ [Hos Hus]
  · isplitl [Hos] <;> iassumption
  imod (show iprop((bigSep Finset.univ fun k : Fin 97 => semVal (kcell (c, k)) 0) ∗ bigSep Finset.univ fun k : Fin 97 => roundState ER (Sc m ρ) (kcell (c, k)) 0)
      ⊢ (|={Set.univ}=> bigSep Finset.univ fun k => iprop(∃ κ : ℕ, cellInv ER (Sc m ρ) κ (kcell (c, k))) : sProp 𝕄) from by
        rw [← bigSep_sep']
        exact (bigSep_mono fun k _ => (Rounds.body_intro ER (Sc m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What all devices know of the counters. -/
def known (K : Dev nD × Fin 97 → ℕ) : sProp 𝕄 :=
  iprop((bigSep Finset.univ fun ck : Dev nD × Fin 97 => cellInv ER (Sc m ρ) (K ck) (kcell ck))
    ∗ bigSep Finset.univ fun ck : Dev nD × Fin 97 => reached ER (kcell ck) 0)
instance known_persistent (K : Dev nD × Fin 97 → ℕ) : BI.Persistent (known m ρ K) := by unfold known; infer_instance

theorem regroup :
    (bigSep Finset.univ fun c : Dev nD => iprop((bigSep Finset.univ fun k => iprop(∃ κ : ℕ, cellInv ER (Sc m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (opened m ρ) := by
  rw [bigSep_sep', bigSep_sep', ← bigSep_univ_prod (fun ck : Dev nD × Fin 97 => iprop(∃ κ : ℕ, cellInv ER (Sc m ρ) κ (kcell ck))),
    bigSep_congr (s := Finset.univ) (fun (c : Dev nD) _ => bigSep_sep' Finset.univ (fun k : Fin 97 => (atPos ER (kcell (c, k)) 0 ∅ 0 : sProp 𝕄)) (fun k => reached ER (kcell (c, k)) 0)),
    bigSep_sep', ← bigSep_univ_prod (fun ck : Dev nD × Fin 97 => (reached ER (kcell ck) 0 : sProp 𝕄)), toks_around]
  iintro ⟨HI, ⟨Hat, #HR⟩, Htok⟩
  ihave HK := (BI.bigSep_exists_pi Finset.univ (fun (ck : Dev nD × Fin 97) (κ : ℕ) => (cellInv ER (Sc m ρ) κ (kcell ck) : sProp 𝕄))) $$ HI
  icases HK with ⟨%K, #HI⟩
  iapply (share_out (R := known m ρ K) (Φ := fun c => iprop(payToks c ∗ places c)) fun c _ => (show iprop(known m ρ K ∗ payToks c ∗ places c) ⊢ opened m ρ c from by
    unfold known opened
    iintro ⟨H, HT⟩
    isplitl [H]; · iexists K; iexact H
    iexact HT))
  isplitr
  · unfold known; isplitl; · iexact HI
    iexact HR
  · iapply ((Entails.of_eq (bigSep_sep' Finset.univ payToks (fun c : Dev nD => bigSep Finset.univ fun k : Fin 97 => (atPos ER (kcell (c, k)) 0 ∅ 0 : sProp 𝕄))).symm).trans
      (bigSep_mono fun c _ => Entails.of_eq (congrArg (fun P : sProp 𝕄 => iprop(payToks c ∗ P)) (cells_eq (fun g => (atPos ER g 0 ∅ 0 : sProp 𝕄)) c))))
    isplitl [Htok]; · iexact Htok
    iexact Hat

theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (opened m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred (fun d => due d (tail 0)) c ∗ prngReg c (ρ c) ∗ opened m ρ c)
      ⊢ |={Set.univ}=> iprop(start m ρ c ∗ emp) := by
  unfold opened
  iintro ⟨-, Hlev, Hcr, -, ⟨%K, HI, HR⟩, HT, HP⟩
  ihave Hc := (creds_intro (F := F) c) $$ Hcr
  imodintro
  unfold start
  isplitl
  · isplitl [HI HR Hlev]
    · iexists K
      unfold recs
      isplitl [HI]; · iexact HI
      isplitl [HR]; · iexact HR
      iexact Hlev
    iapply (ghost_intro (F := F) c)
    isplitl [HT]; · iexact HT
    isplitl [HP]; · iexact HP
    iexact Hc
  · iempintro

theorem scratch_whole (c : Dev nD) : (scratch c : sProp 𝕄) ⊣⊢ iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)) :=
  ⟨BI.Entails.refl _, BI.Entails.refl _⟩

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iapply (scratch_whole c).2 $$ Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, HzB, HzS, HzV⟩
  isplitl [HzB]; · iexact HzB
  isplitl [HzS HzV]
  · isplitl [HzS] <;> iassumption
  iapply (scratch_whole c).1 $$ Hr

theorem waits (c : Dev nD) : (levAts L lv : sProp 𝕄) ⊢ Pipeline.cellsWaits cfgs (dats m ρ) () 0 c :=
  Pipeline.cellsWaits_intro cfgs (dats m ρ) () 0 c fun w s t => by
    have h : lv ((c : Thread nD τ), .dma (((cfgs 0).win w).sem s)) () = 0 := by fin_cases w <;> fin_cases s <;> rfl
    rcases t with ⟨_ | _, ht⟩
    · exact may_wait c _ (tail 0) 0 (le_of_eq h) (fun _ _ => Nat.one_pos) (fun k _ => by omega)
    · exact may_wait c _ [] 0 (le_of_eq h) (fun _ h => by cases h) (fun _ h => by cases h)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every execution ends, with the arrays at the computed contents and every counter
    at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => due d (tail 0)) (howed₀ := fun _ => rfl) (howedN := fun _ => rfl)
    (L := L) (lv := lv) (hL := L_of_ne) (hwaits := waits m ρ)
    (G := dealt m ρ) (G' := opened m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands hold what they held. -/
theorem finalA_x (c : Dev nD) : finalA m ρ c (0 : Fin 4) = m ((c : Thread nD τ).loc main_arg0) := (dats (F := F) m ρ 0 c).arrAt_in (0 : Fin 4) rfl _
theorem finalA_r (c : Dev nD) : finalA m ρ c (1 : Fin 4) = m ((c : Thread nD τ).loc main_arg1) := (dats (F := F) m ρ 0 c).arrAt_in (1 : Fin 4) rfl _
theorem finalA_g (c : Dev nD) : finalA m ρ c (2 : Fin 4) = m ((c : Thread nD τ).loc main_arg2) := (dats (F := F) m ρ 0 c).arrAt_in (2 : Fin 4) rfl _

end Cert.Plan

end

end
-- ==== Proof.Frames.lean ====
/-
  What every execution of the three programs leaves: the kernel's result array at `Tv` on every device, the operands as
  they were, and every counter at zero; the reference's operands as they were.
-/
module

public import proofs.«01_k».proof.Defs
public import proofs.«01_k».proof.Proof.Launch
public import proofs.«01_k».proof.Proof.Gen.Kernel
public import Idealize.ShloMosaic.Lib.Pipeline.ValueKit.Geometry
public import proofs.«01_k».proof.Proof.Gen.ReferenceIdeal.Run

@[expose] public section

noncomputable section

namespace Cert.Plan

open Cert.KernelIdeal Cert.KernelIdeal.Gen
open Idealize.ShloMosaic
open Idealize.ShloMosaic.TcCoe
open Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- The result array holds `Tv`: the one block of the output window is the whole array, written back at the one point. -/
theorem finalA_o (c : Dev nD) : finalA m ρ c (3 : Fin 4) = Tv m ρ :=
  Dat.arrAt_eq_of_after_last (dats (F := F) m ρ 0 c) (3 : Fin 4) t0_0 (by decide +kernel) _ (fun _ => rfl) (Memref.isWhole_whole _)

/-- What the first operand's window reads is the array. -/
theorem Xv_eq (c : Dev nD) : Xv m ρ c = m ((c : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _

/-- What the second operand's window reads is the array. -/
theorem Rv_eq (c : Dev nD) : Rv m ρ c = m ((c : Thread nD τ).loc main_arg1) :=
  Memref.read_access_unit_zero (Elt F) main_arg1
    (show (fun a => (win0_1.index (0 : Fin 1)) a * main_arg1.ty.shape.size a) = fun _ => 0 from funext fun a => by fin_cases a <;> decide)
    (fun a => by fin_cases a <;> decide) _

/-- What the third operand's window reads is the array. -/
theorem Gv_eq (c : Dev nD) : Gv m ρ c = m ((c : Thread nD τ).loc main_arg2) :=
  Memref.read_access_unit_zero (Elt F) main_arg2
    (show (fun a => (win0_2.index (0 : Fin 1)) a * main_arg2.ty.shape.size a) = fun _ => 0 from funext fun a => by fin_cases a <;> decide)
    (fun a => by fin_cases a <;> decide) _

/-- The kernel over any float values: each device's result array ends at `Tv`, the operands end as they were, and every
    counter ends at zero. -/
theorem ends : θ_run defs (onTc (τ := τ) (main (F := F))) ⟨m, fun _ => 0, ρ⟩ (fun r =>
    (∀ c : Dev nD, r.2.mem ((c : Thread nD τ).loc main_v1) = Tv m ρ
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun _ h => ⟨fun c => ⟨(h.1 c (3 : Fin 4)).trans (finalA_o m ρ c), (h.1 c (0 : Fin 4)).trans (finalA_x m ρ c),
    (h.1 c (1 : Fin 4)).trans (finalA_r m ρ c), (h.1 c (2 : Fin 4)).trans (finalA_g m ρ c)⟩, h.2⟩) (run_main m ρ)

/-- The idealized kernel's frame. -/
theorem frame_ideal : Cert.quiescent_KernelIdeal := fun m ρ _ =>
  (θ_run Cert.KernelIdeal.defs _ _).mono (fun _ h => ⟨fun c => (h.1 c).2, h.2⟩) (ends (F := Ideal) m ρ)

/-- The two kernels' bodies are one text. -/
theorem same_kernel : Cert.Kernel.cc0_body (F := F) = Cert.KernelIdeal.cc0_body (F := F) := rfl

/-- So their tables of bodies are equal. -/
theorem same_table : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | 0, (t, s) => rfl

/-- And with the launch put around them. -/
theorem same_defs : Cert.Kernel.defs (F := F) = Cert.KernelIdeal.defs (F := F) :=
  congrArg (Idealize.ShloMosaic.Pipeline.defs (Cert.KernelIdeal.pcfgs (F := F))) same_table

/-- The kernel's frame: its text is the idealized kernel's, so the same run is read at the machine's floats. -/
theorem frame_kernel : Cert.quiescent_Kernel := fun m ρ _ => by
  have h : θ_run Cert.KernelIdeal.defs (onTc (τ := τ) (Cert.KernelIdeal.main (F := Bits))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0) :=
    (θ_run Cert.KernelIdeal.defs _ _).mono (fun _ h => ⟨fun c => (h.1 c).2, h.2⟩) (ends (F := Bits) m ρ)
  rw [← same_defs] at h
  exact h

/-- The reference's frame: it has no semaphore, and its run leaves the arguments alone. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Plan

end
-- ==== Proof.Formula.lean ====
/-
  The element of a normalised row, over the extended reals: what both programs compute.
-/
module

public import Idealize.ShloMosaic.PureOps.Ideal

@[expose] public section

noncomputable section

namespace Cert.Plan

open Idealize.ShloMosaic

/-- One element of a normalised row: `y j` over the root of the row's mean square (plus the small constant), times `g`. -/
def normed (y : Fin 1024 → EReal) (g : EReal) (j : Fin 1024) : EReal :=
  Ideal.div (y j) (Ideal.sqrt (Ideal.div (∑ k : Fin 1024, y k * y k) (Ideal.ofBits .f32 0x44800000#32) + Ideal.ofBits .f32 0x358637BD#32)) * g

end Cert.Plan

end
-- ==== Proof.Value.lean ====
/-
  What the kernel computes, over the extended reals: the partial sums add up to the sum of the sixteen arrays, and the result
  is that sum and the residual, normalised row by row.
-/
module

public import proofs.«01_k».proof.Proof.Sums
public import proofs.«01_k».proof.Proof.Formula
public import Idealize.ShloMosaic.Lib.Pointwise

@[expose] public section

noncomputable section

namespace Cert.Plan

open Cert.KernelIdeal Cert.KernelIdeal.Gen
open Idealize.ShloMosaic

/-- The kernel's arithmetic on its 64 rows. -/
theorem rows_apply (v w : Vec Ideal S64x1024 .f32) (g : Vec Ideal S1x1024 .f32) (a : S64x1024.Idx) :
    k0_pay20 v w g a = normed (fun k => v (ix2 (a 0) k) + w (ix2 (a 0) k)) (g (ix2 0 (a 1))) (a 1) := by
  unfold k0_pay20 normed
  pointwise

/-- The sixteen devices in the order in which half `d`'s sum on device `c` meets them. -/
def met (d : Fin 2) (c : Dev nD) : List (Dev nD) :=
  let ring := fun e => [e, prv d e, prv d (prv d e), prv d (prv d (prv d e))]
  ring c ++ ring (prz d c) ++ ring (prz d (prz d c)) ++ ring (prz d (prz d (prz d c)))

theorem met_perm : ∀ (d : Fin 2) (c : Dev nD), (met d c).Perm (List.finRange 16) := by decide +kernel

theorem met_sum (d : Fin 2) (c : Dev nD) (f : Dev nD → EReal) : ((met d c).map f).sum = ∑ e : Fin 16, f e := by
  rw [((met_perm d c).map f).sum_eq, Fin.sum_univ_def]

/-- The last partial sum is the sum over all devices, whichever device holds it. -/
theorem sum5_apply (X : Dev nD → Vec Ideal S1024x1024 .f32) (d : Fin 2) (c : Dev nD) (i : S1024x1024.Idx) :
    sum5 X d c i = ∑ e : Fin 16, X e i := by
  rw [← met_sum d c fun e => X e i]
  unfold sum5 sum4 sum3 sum2 sum1 sum0 met
  simp only [addf_apply, Ideal.addf_def, List.map_append, List.map_cons, List.map_nil, List.sum_append, List.sum_cons, List.sum_nil, add_zero, add_assoc]

theorem both_apply (X : Dev nD → Vec Ideal S1024x1024 .f32) (c : Dev nD) (i : S1024x1024.Idx) :
    both X c i = ∑ e : Fin 16, X e i := by
  unfold both; split <;> exact sum5_apply X _ c i

theorem owner_covers : ∀ r : Fin 1024, 256 * (qd (owner r.val) + 1).val + 64 * (gd (owner r.val) + 1).val + r.val % 64 = r.val := by decide +kernel

/-- A row of the result, from that row of the operands. -/
theorem total_apply (X : Dev nD → Vec Ideal S1024x1024 .f32) (r : Vec Ideal S1024x1024 .f32) (g : Vec Ideal S1x1024 .f32) (i : S1024x1024.Idx) :
    total X (fun _ => r) (fun _ => g) i = normed (fun k => (∑ e : Fin 16, X e (ix2 (i 0) k)) + r (ix2 (i 0) k)) (g (ix2 0 (i 1))) (i 1) := by
  have hrow (k : Fin 1024) : (rwR (qd (owner (i 0).val) + 1) (gd (owner (i 0).val) + 1)).emb (ix2 (within i 0) k) = (ix2 (i 0) k : S1024x1024.Idx) := by
    funext a
    apply Fin.ext
    refine (unit_val _ _ _).trans ?_
    fin_cases a
    · exact owner_covers (i 0)
    · exact Nat.zero_add _
  unfold total rowsOf
  rw [rows_apply]
  unfold cut
  have h1 : within i 1 = (i 1 : Fin 1024) := rfl
  simp only [hrow, both_apply, h1]

end Cert.Plan

end
-- ==== Proof.RefValue.lean ====
/-
  What the reference computes, over the extended reals: the sum of the sixteen blocks and the residual, normalised row by row.
-/
module

public import proofs.«01_k».proof.Proof.Gen.ReferenceIdeal
public import proofs.«01_k».proof.Proof.Formula
public import Idealize.ShloMosaic.Lib.Pointwise

@[expose] public section

noncomputable section

namespace Cert.Plan

open Cert.ReferenceIdeal Cert.ReferenceIdeal.Gen
open Idealize.ShloMosaic

/-- The reference's sum over the devices. -/
def refSum (x : FVec Ideal S16384x1024 .f32) : FVec Ideal S1024x1024 .f32 :=
  Host.reduceAdd (shapeCast S16x1024x1024 x shapeCasts_S16384x1024_S16x1024x1024) (constant S_ .f32 0x00000000#32) reducesTo_S16x1024x1024_S1024x1024_d0 h_S_

/-- The reference's normalisation of `y`. -/
def refNorm (y : FVec Ideal S1024x1024 .f32) (g : FVec Ideal S1x1024 .f32) : FVec Ideal S1024x1024 .f32 :=
  mulf (Host.divf y (broadcastInDim S1024x1024 ![0, 1] bcast_S1024x1_S1024x1024_0_1 (Host.sqrt (addf (Host.divf (broadcastInDim S1024x1 ![0] bcast_S1024_S1024x1_0 (Host.reduceAdd (mulf y y) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 g)

/-- The normalisation at an element. -/
theorem refNorm_apply (y : FVec Ideal S1024x1024 .f32) (g : FVec Ideal S1x1024 .f32) (i : S1024x1024.Idx) :
    refNorm y g i = normed (fun k => y (ix2 (i 0) k)) (g (ix2 0 (i 1))) (i 1) := by
  unfold refNorm normed
  pointwise

/-- The sum at an element: block `e` begins at row `1024 e`. -/
theorem refSum_apply (x : FVec Ideal S16384x1024 .f32) (i : S1024x1024.Idx) :
    refSum x i = ∑ e : Fin 16, x (ix2 ⟨e.val * 1024 + (i 0).val, by have h : (i 0).val < 1024 := (i 0).isLt; omega⟩ (i 1)) := by
  unfold refSum
  pointwise

end Cert.Plan

end
-- ==== Proof.Algebra.lean ====
/-
  The kernel and the reference compute the same function over the extended reals.
-/
module

public import proofs.«01_k».proof.Proof.Frames
public import proofs.«01_k».proof.Proof.Value
public import proofs.«01_k».proof.Proof.RefValue

@[expose] public section

noncomputable section

namespace Cert.Plan

open Cert.KernelIdeal Cert.KernelIdeal.Gen
open Idealize.ShloMosaic
open Idealize.ShloMosaic.TcCoe
open Idealize.SL.Sem

/-- The reference's result on the whole arrays is the kernel's on their blocks. -/
theorem total_eq (x : FVec Ideal Cert.ReferenceIdeal.S16384x1024 .f32) (r : Vec Ideal S1024x1024 .f32) (g : Vec Ideal S1x1024 .f32) :
    total (fun c => Layout.block ⟨2, ![1024, 1024]⟩ ⟨2, ![16384, 1024]⟩ 0 16 c x) (fun _ => r) (fun _ => g) = refNorm (addf (refSum x) r) g := by
  funext i
  rw [total_apply, refNorm_apply]
  refine congrArg (fun y => normed y (g (ix2 0 (i 1))) (i 1)) (funext fun k => ?_)
  rw [addf_apply, Ideal.addf_def, refSum_apply]
  refine congrArg (· + r (ix2 (i 0) k)) (Finset.sum_congr rfl fun e _ => ?_)
  rw [Layout.block_apply]
  refine congrArg x (funext fun a => Fin.ext ?_)
  fin_cases a <;> rfl

/-- The value claim. -/
theorem algebraic : Cert.algebraic_KernelIdeal_ReferenceIdeal := by
  intro m ρ m' ρ' _ hagree
  refine ⟨refNorm (addf (refSum (m' (((0 : Dev Cert.ReferenceIdeal.nD).tc : Thread Cert.ReferenceIdeal.nD Cert.ReferenceIdeal.τ).loc Cert.ReferenceIdeal.main_arg0)))
    (m' (((0 : Dev Cert.ReferenceIdeal.nD).tc : Thread Cert.ReferenceIdeal.nD Cert.ReferenceIdeal.τ).loc Cert.ReferenceIdeal.main_arg1)))
    (m' (((0 : Dev Cert.ReferenceIdeal.nD).tc : Thread Cert.ReferenceIdeal.nD Cert.ReferenceIdeal.τ).loc Cert.ReferenceIdeal.main_arg2)), ?_, ?_⟩
  · have hx : Xv m ρ = fun c => Layout.block ⟨2, ![1024, 1024]⟩ ⟨2, ![16384, 1024]⟩ 0 16 c _ := funext fun c => (Xv_eq m ρ c).trans (hagree c).1
    have hr : Rv m ρ = fun _ => _ := funext fun c => (Rv_eq m ρ c).trans (hagree c).2.1
    have hg : Gv m ρ = fun _ => _ := funext fun c => (Gv_eq m ρ c).trans (hagree c).2.2
    have ht := show Tv m ρ = total (Xv m ρ) (Rv m ρ) (Gv m ρ) from rfl
    rw [hx, hr, hg, total_eq] at ht
    exact (θ_run Cert.KernelIdeal.defs _ _).mono (fun _ h c => ⟨(h.1 c).1.trans ht, (h.1 c).2⟩) (ends (F := Ideal) m ρ)
  · exact (θ_run Cert.ReferenceIdeal.defs _ _).mono (fun _ h => h 0) (Cert.ReferenceIdeal.Value.run (F := Ideal) m' ρ')

end Cert.Plan

end
-- ==== Proof.lean ====
/-
  The certificate: the frames of the kernel, of the idealized kernel and of the reference, that nothing was rewritten
  between the first two, and that the idealized kernel and the reference compute the same function.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Plan.frame_kernel, Cert.Plan.frame_ideal, Cert.Plan.frame_reference, trivial,
  Cert.Plan.algebraic⟩

end Cert.Proof

end
